-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_causal_and_finite [hPre_causal_and_finite : Cert.Pre_causal_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_causal_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal_and_finite [hPre_causal_and_finite : Cert.Pre_causal_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_causal_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_causal_and_finite [hKernelIdeal : Cert.KernelIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_causal_and_finite [hReferenceIdeal : Cert.ReferenceIdeal.Facts] [hPre_causal_and_finite : Cert.Pre_causal_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_causal_and_finite [hKernelIdeal : Cert.KernelIdeal.Facts] [hReferenceIdeal : Cert.ReferenceIdeal.Facts] [hPre_causal_and_finite : Cert.Pre_causal_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_causal_and_finite : Cert.Pre_causal_and_finite.Facts),
    quiescent_Kernel (hKernel := hKernel)
    ∧ quiescent_KernelIdeal (hKernelIdeal := hKernelIdeal)
    ∧ quiescent_KernelIdeal_pre_causal_and_finite (hKernelIdeal := hKernelIdeal) (hPre_causal_and_finite := hPre_causal_and_finite)
    ∧ quiescent_ReferenceIdeal (hReferenceIdeal := hReferenceIdeal)
    ∧ quiescent_ReferenceIdeal_pre_causal_and_finite (hReferenceIdeal := hReferenceIdeal) (hPre_causal_and_finite := hPre_causal_and_finite)
    ∧ preserves_Kernel_KernelIdeal
    ∧ algebraic_KernelIdeal_ReferenceIdeal_pre_causal_and_finite (hKernelIdeal := hKernelIdeal) (hReferenceIdeal := hReferenceIdeal) (hPre_causal_and_finite := hPre_causal_and_finite)
-- ==== Pre_causal_and_finite.lean ====
abbrev S2x1024x4096 : Shape := ⟨3, ![2, 1024, 4096]⟩
abbrev S_ : Shape := ⟨0, ![]⟩
abbrev S1024x64 : Shape := ⟨2, ![1024, 64]⟩
abbrev S1024x1024 : Shape := ⟨2, ![1024, 1024]⟩
abbrev S4096x4096 : Shape := ⟨2, ![4096, 4096]⟩
abbrev S4096x1024 : Shape := ⟨2, ![4096, 1024]⟩

class Facts : Prop where
  bcast_S_S1024x1024 : S_.BroadcastsInDim S1024x1024 (![] : Fin 0 → Fin S1024x1024.rank)
  bcast_S_S2x1024x4096 : S_.BroadcastsInDim S2x1024x4096 (![] : Fin 0 → Fin S2x1024x4096.rank)
  bcast_S_S1024x64 : S_.BroadcastsInDim S1024x64 (![] : Fin 0 → Fin S1024x64.rank)
  bcast_S_S4096x4096 : S_.BroadcastsInDim S4096x4096 (![] : Fin 0 → Fin S4096x4096.rank)
  bcast_S_S4096x1024 : S_.BroadcastsInDim S4096x1024 (![] : Fin 0 → Fin S4096x1024.rank)

variable [Facts]

def fn_where {F : FTy → Type} [FloatOps F] (arg0 : IVec S1024x1024 1) (arg1 : FVec F S_ .f32) (arg2 : FVec F S_ .f32) : FVec F S1024x1024 .f32 :=
  let v0 : FVec F S1024x1024 .f32 := broadcastInDim S1024x1024 ![] bcast_S_S1024x1024 arg1
  let v1 : FVec F S1024x1024 .f32 := broadcastInDim S1024x1024 ![] bcast_S_S1024x1024 arg2
  let v2 : FVec F S1024x1024 .f32 := select arg0 v0 v1
  v2

def fn_part1 {F : FTy → Type} [FloatOps F] (main_v4 : IVec S1024x1024 1) (main_v7 : IVec S2x1024x4096 1) (main_v10 : IVec S1024x64 1) (main_v13 : IVec S1024x64 1) (main_v16 : IVec S4096x4096 1) (main_v17 : FVec F S4096x1024 .f32) : IVec S1024x1024 1 × IVec S2x1024x4096 1 × IVec S1024x64 1 × IVec S1024x64 1 × IVec S4096x4096 1 × IVec S4096x1024 1 :=
  let main_cst_5 : FVec F S_ .f32 := constant S_ .f32 0x7F800000#32
  let main_v18 : FVec F S4096x1024 .f32 := broadcastInDim S4096x1024 ![] bcast_S_S4096x1024 main_cst_5
  let main_v19 : IVec S4096x1024 1 := cmpf .olt main_v17 main_v18
  (main_v4, main_v7, main_v10, main_v13, main_v16, main_v19)

def fn {F : FTy → Type} [FloatOps F] (main_arg0 : FVec F S2x1024x4096 .f32) (main_arg1 : IVec S_ 32) (main_arg2 : FVec F S1024x64 .f32) (main_arg3 : FVec F S1024x64 .f32) (main_arg4 : FVec F S1024x1024 .f32) (main_arg5 : FVec F S4096x4096 .f32) (main_arg6 : FVec F S4096x1024 .f32) (main_arg7 : FVec F S4096x1024 .f32) (main_arg8 : FVec F S4096x4096 .f32) : IVec S1024x1024 1 × IVec S2x1024x4096 1 × IVec S1024x64 1 × IVec S1024x64 1 × IVec S4096x4096 1 × IVec S4096x1024 1 :=
  let main_v0 : IVec S1024x1024 32 := iotaInDim S1024x1024 32 0
  let main_v1 : IVec S1024x1024 32 := iotaInDim S1024x1024 32 1
  let main_v2 : IVec S1024x1024 1 := cmpi .sgt main_v1 main_v0
  let main_cst : FVec F S_ .f32 := constant S_ .f32 0xCE6E6B28#32
  let main_cst_0 : FVec F S_ .f32 := constant S_ .f32 0x00000000#32
  let main_v3 : FVec F S1024x1024 .f32 := fn_where (F := F) main_v2 main_cst main_cst_0
  let main_v4 : IVec S1024x1024 1 := cmpf .oeq main_arg4 main_v3
  let main_v5 : FVec F S2x1024x4096 .f32 := Host.absf main_arg0
  let main_cst_1 : FVec F S_ .f32 := constant S_ .f32 0x7F800000#32
  let main_v6 : FVec F S2x1024x4096 .f32 := broadcastInDim S2x1024x4096 ![] bcast_S_S2x1024x4096 main_cst_1
  let main_v7 : IVec S2x1024x4096 1 := cmpf .olt main_v5 main_v6
  let main_v8 : FVec F S1024x64 .f32 := Host.absf main_arg2
  let main_cst_2 : FVec F S_ .f32 := constant S_ .f32 0x7F800000#32
  let main_v9 : FVec F S1024x64 .f32 := broadcastInDim S1024x64 ![] bcast_S_S1024x64 main_cst_2
  let main_v10 : IVec S1024x64 1 := cmpf .olt main_v8 main_v9
  let main_v11 : FVec F S1024x64 .f32 := Host.absf main_arg3
  let main_cst_3 : FVec F S_ .f32 := constant S_ .f32 0x7F800000#32
  let main_v12 : FVec F S1024x64 .f32 := broadcastInDim S1024x64 ![] bcast_S_S1024x64 main_cst_3
  let main_v13 : IVec S1024x64 1 := cmpf .olt main_v11 main_v12
  let main_v14 : FVec F S4096x4096 .f32 := Host.absf main_arg5
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  let main_v17 : FVec F S4096x1024 .f32 := Host.absf main_arg6
  fn_part1 (F := F) main_v4 main_v7 main_v10 main_v13 main_v16 main_v17
-- ==== Kernel.lean ====
abbrev S2x1024x4096 : Shape := ⟨3, ![2, 1024, 4096]⟩
abbrev S_ : Shape := ⟨0, ![]⟩
abbrev S1024x64 : Shape := ⟨2, ![1024, 64]⟩
abbrev S1024x1024 : Shape := ⟨2, ![1024, 1024]⟩
abbrev S4096x4096 : Shape := ⟨2, ![4096, 4096]⟩
abbrev S4096x1024 : Shape := ⟨2, ![4096, 1024]⟩
abbrev S2048x4096 : Shape := ⟨2, ![2048, 4096]⟩
abbrev S1024x64x1 : Shape := ⟨3, ![1024, 64, 1]⟩
abbrev S1024x64x2 : Shape := ⟨3, ![1024, 64, 2]⟩
abbrev S1024x128 : Shape := ⟨2, ![1024, 128]⟩
abbrev S512x512 : Shape := ⟨2, ![512, 512]⟩
abbrev S1024x4096 : Shape := ⟨2, ![1024, 4096]⟩
abbrev S4096x512 : Shape := ⟨2, ![4096, 512]⟩
abbrev S1024x512 : Shape := ⟨2, ![1024, 512]⟩
abbrev S2048x2048 : Shape := ⟨2, ![2048, 2048]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩

abbrev nBuf : Space → Nat
  | .hbm => 43
  | .vmem => 33
  | .smem => 0
  | _ => 0

abbrev bufTy : (tb : Table) → Fin (tcTables nBuf tb) → BufTy
  | .hbm, ⟨0, _⟩ => ⟨S2x1024x4096, .f32⟩
  | .hbm, ⟨1, _⟩ => ⟨S_, .i32⟩
  | .hbm, ⟨2, _⟩ => ⟨S1024x64, .f32⟩
  | .hbm, ⟨3, _⟩ => ⟨S1024x64, .f32⟩
  | .hbm, ⟨4, _⟩ => ⟨S1024x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S2048x4096, .f32⟩
  | .hbm, ⟨10, _⟩ => ⟨S2048x4096, .bf16⟩
  | .hbm, ⟨11, _⟩ => ⟨S1024x64x1, .f32⟩
  | .hbm, ⟨12, _⟩ => ⟨S1024x64x1, .f32⟩
  | .hbm, ⟨13, _⟩ => ⟨S1024x64x2, .f32⟩
  | .hbm, ⟨14, _⟩ => ⟨S1024x128, .f32⟩
  | .hbm, ⟨15, _⟩ => ⟨S1024x64, .f32⟩
  | .hbm, ⟨16, _⟩ => ⟨S1024x64x1, .f32⟩
  | .hbm, ⟨17, _⟩ => ⟨S1024x64x1, .f32⟩
  | .hbm, ⟨18, _⟩ => ⟨S1024x64x2, .f32⟩
  | .hbm, ⟨19, _⟩ => ⟨S1024x128, .f32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S_, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .bf16⟩
  | .hbm, ⟨32, _⟩ => ⟨S2048x4096, .bf16⟩
  | .hbm, ⟨33, _⟩ => ⟨S2048x2048, .bf16⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S1024x128, .f32⟩
  | .hbm, ⟨40, _⟩ => ⟨S2048x4096, .bf16⟩
  | .hbm, ⟨41, _⟩ => ⟨S2048x4096, .f32⟩
  | .hbm, ⟨42, _⟩ => ⟨S2x1024x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S1024x4096, .bf16⟩
  | .local _ .vmem, ⟨7, _⟩ => ⟨S1024x4096, .bf16⟩
  | .local _ .vmem, ⟨8, _⟩ => ⟨S4096x512, .f32⟩
  | .local _ .vmem, ⟨9, _⟩ => ⟨S4096x512, .f32⟩
  | .local _ .vmem, ⟨10, _⟩ => ⟨S4096x512, .f32⟩
  | .local _ .vmem, ⟨11, _⟩ => ⟨S4096x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S512x512, .bf16⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x512, .bf16⟩
  | .local _ .vmem, ⟨26, _⟩ => ⟨S1024x512, .bf16⟩
  | .local _ .vmem, ⟨27, _⟩ => ⟨S1024x4096, .bf16⟩
  | .local _ .vmem, ⟨28, _⟩ => ⟨S1024x4096, .bf16⟩
  | .local _ .vmem, ⟨29, _⟩ => ⟨S4096x512, .f32⟩
  | .local _ .vmem, ⟨30, _⟩ => ⟨S4096x512, .f32⟩
  | .local _ .vmem, ⟨31, _⟩ => ⟨S1024x512, .f32⟩
  | .local _ .vmem, ⟨32, _⟩ => ⟨S1024x512, .f32⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg8_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem8_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 4], ![false, false]⟩

def k1_cond1 (i : grid1.Coords) : BitVec 1 :=
  let arg1 : BitVec 32 := BitVec.ofNat 32 (i 1).val
  let c2_i32 : BitVec 32 := 2#32
  let v0 : BitVec 1 := Scalar.cmpi .slt arg1 c2_i32
  let v1 : BitVec 32 := Scalar.extui v0
  let c0_i32 : BitVec 32 := 0#32
  let v2 : BitVec 1 := Scalar.cmpi .ne v1 c0_i32
  v2

def k1_cond2 (i : grid1.Coords) : BitVec 1 :=
  let arg1 : BitVec 32 := BitVec.ofNat 32 (i 1).val
  let c2_i32_0 : BitVec 32 := 2#32
  let v3 : BitVec 1 := Scalar.cmpi .sge arg1 c2_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1024x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1024x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1024x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1024x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1024x512 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== KernelIdeal.lean ====
variable {F : FTy → Type} [FloatOps F] [Named F]
def κ : String → Option EReal := fun
  | "mask" => some ⊥
  | _ => none
-- ==== ReferenceIdeal.lean ====
abbrev S2x1024x4096 : Shape := ⟨3, ![2, 1024, 4096]⟩
abbrev S_ : Shape := ⟨0, ![]⟩
abbrev S1024x64 : Shape := ⟨2, ![1024, 64]⟩
abbrev S1024x1024 : Shape := ⟨2, ![1024, 1024]⟩
abbrev S4096x4096 : Shape := ⟨2, ![4096, 4096]⟩
abbrev S4096x1024 : Shape := ⟨2, ![4096, 1024]⟩
abbrev S2x1024x32x128 : Shape := ⟨4, ![2, 1024, 32, 128]⟩
abbrev S2x1024x1024 : Shape := ⟨3, ![2, 1024, 1024]⟩
abbrev S2x1024x8x128 : Shape := ⟨4, ![2, 1024, 8, 128]⟩
abbrev S2x1024x32x64x2 : Shape := ⟨5, ![2, 1024, 32, 64, 2]⟩
abbrev S2x1024x32x64x1 : Shape := ⟨5, ![2, 1024, 32, 64, 1]⟩
abbrev S2x1024x32x64 : Shape := ⟨4, ![2, 1024, 32, 64]⟩
abbrev S1x1024x1x64 : Shape := ⟨4, ![1, 1024, 1, 64]⟩
abbrev S2x1024x8x64x2 : Shape := ⟨5, ![2, 1024, 8, 64, 2]⟩
abbrev S2x1024x8x64x1 : Shape := ⟨5, ![2, 1024, 8, 64, 1]⟩
abbrev S2x1024x8x64 : Shape := ⟨4, ![2, 1024, 8, 64]⟩
abbrev S2x1024x8x4x128 : Shape := ⟨5, ![2, 1024, 8, 4, 128]⟩
abbrev S2x32x1024x1024 : Shape := ⟨4, ![2, 32, 1024, 1024]⟩
abbrev S1x1x1024x1024 : Shape := ⟨4, ![1, 1, 1024, 1024]⟩
abbrev S2x32x1024 : Shape := ⟨3, ![2, 32, 1024]⟩
abbrev S2x32x1024x1 : Shape := ⟨4, ![2, 32, 1024, 1]⟩
abbrev S2x32x128x1024 : Shape := ⟨4, ![2, 32, 128, 1024]⟩

abbrev nBuf : Space → Nat
  | .hbm => 93
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S_, .i32⟩
  | .hbm, ⟨2, _⟩ => ⟨S1024x64, .f32⟩
  | .hbm, ⟨3, _⟩ => ⟨S1024x64, .f32⟩
  | .hbm, ⟨4, _⟩ => ⟨S1024x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S2x1024x4096, .f32⟩
  | .hbm, ⟨10, _⟩ => ⟨S2x1024x32x128, .f32⟩
  | .hbm, ⟨11, _⟩ => ⟨S2x1024x1024, .f32⟩
  | .hbm, ⟨12, _⟩ => ⟨S2x1024x8x128, .f32⟩
  | .hbm, ⟨13, _⟩ => ⟨S2x1024x1024, .f32⟩
  | .hbm, ⟨14, _⟩ => ⟨S2x1024x8x128, .f32⟩
  | .hbm, ⟨15, _⟩ => ⟨S2x1024x32x64x2, .f32⟩
  | .hbm, ⟨16, _⟩ => ⟨S2x1024x32x64x1, .f32⟩
  | .hbm, ⟨17, _⟩ => ⟨S2x1024x32x64, .f32⟩
  | .hbm, ⟨18, _⟩ => ⟨S2x1024x32x64x1, .f32⟩
  | .hbm, ⟨19, _⟩ => ⟨S2x1024x32x64, .f32⟩
  | .hbm, ⟨20, _⟩ => ⟨S1x1024x1x64, .f32⟩
  | .hbm, ⟨21, _⟩ => ⟨S1x1024x1x64, .f32⟩
  | .hbm, ⟨22, _⟩ => ⟨S2x1024x32x64, .f32⟩
  | .hbm, ⟨23, _⟩ => ⟨S2x1024x32x64, .f32⟩
  | .hbm, ⟨24, _⟩ => ⟨S2x1024x32x64, .f32⟩
  | .hbm, ⟨25, _⟩ => ⟨S2x1024x32x64, .f32⟩
  | .hbm, ⟨26, _⟩ => ⟨S2x1024x32x64, .f32⟩
  | .hbm, ⟨27, _⟩ => ⟨S2x1024x32x64, .f32⟩
  | .hbm, ⟨28, _⟩ => ⟨S2x1024x32x64, .f32⟩
  | .hbm, ⟨29, _⟩ => ⟨S2x1024x32x64, .f32⟩
  | .hbm, ⟨30, _⟩ => ⟨S2x1024x32x64, .f32⟩
  | .hbm, ⟨31, _⟩ => ⟨S2x1024x32x64, .f32⟩
  | .hbm, ⟨32, _⟩ => ⟨S2x1024x32x64x1, .f32⟩
  | .hbm, ⟨33, _⟩ => ⟨S2x1024x32x64x1, .f32⟩
  | .hbm, ⟨34, _⟩ => ⟨S2x1024x32x64x2, .f32⟩
  | .hbm, ⟨35, _⟩ => ⟨S2x1024x32x128, .f32⟩
  | .hbm, ⟨36, _⟩ => ⟨S2x1024x8x64x2, .f32⟩
  | .hbm, ⟨37, _⟩ => ⟨S2x1024x8x64x1, .f32⟩
  | .hbm, ⟨38, _⟩ => ⟨S2x1024x8x64, .f32⟩
  | .hbm, ⟨39, _⟩ => ⟨S2x1024x8x64x1, .f32⟩
  | .hbm, ⟨40, _⟩ => ⟨S2x1024x8x64, .f32⟩
  | .hbm, ⟨41, _⟩ => ⟨S1x1024x1x64, .f32⟩
  | .hbm, ⟨42, _⟩ => ⟨S1x1024x1x64, .f32⟩
  | .hbm, ⟨43, _⟩ => ⟨S2x1024x8x64, .f32⟩
  | .hbm, ⟨44, _⟩ => ⟨S2x1024x8x64, .f32⟩
  | .hbm, ⟨45, _⟩ => ⟨S2x1024x8x64, .f32⟩
  | .hbm, ⟨46, _⟩ => ⟨S2x1024x8x64, .f32⟩
  | .hbm, ⟨47, _⟩ => ⟨S2x1024x8x64, .f32⟩
  | .hbm, ⟨48, _⟩ => ⟨S2x1024x8x64, .f32⟩
  | .hbm, ⟨49, _⟩ => ⟨S2x1024x8x64, .f32⟩
  | .hbm, ⟨50, _⟩ => ⟨S2x1024x8x64, .f32⟩
  | .hbm, ⟨51, _⟩ => ⟨S2x1024x8x64, .f32⟩
  | .hbm, ⟨52, _⟩ => ⟨S2x1024x8x64, .f32⟩
  | .hbm, ⟨53, _⟩ => ⟨S2x1024x8x64x1, .f32⟩
  | .hbm, ⟨54, _⟩ => ⟨S2x1024x8x64x1, .f32⟩
  | .hbm, ⟨55, _⟩ => ⟨S2x1024x8x64x2, .f32⟩
  | .hbm, ⟨56, _⟩ => ⟨S2x1024x8x128, .f32⟩
  | .hbm, ⟨57, _⟩ => ⟨S2x1024x8x4x128, .f32⟩
  | .hbm, ⟨58, _⟩ => ⟨S2x1024x32x128, .f32⟩
  | .hbm, ⟨59, _⟩ => ⟨S2x1024x8x4x128, .f32⟩
  | .hbm, ⟨60, _⟩ => ⟨S2x1024x32x128, .f32⟩
  | .hbm, ⟨61, _⟩ => ⟨S2x32x1024x1024, .f32⟩
  | .hbm, ⟨62, _⟩ => ⟨S_, .f32⟩
  | .hbm, ⟨63, _⟩ => ⟨S2x32x1024x1024, .f32⟩
  | .hbm, ⟨64, _⟩ => ⟨S2x32x1024x1024, .f32⟩
  | .hbm, ⟨65, _⟩ => ⟨S_, .f32⟩
  | .hbm, ⟨66, _⟩ => ⟨S1024x1024, .f32⟩
  | .hbm, ⟨67, _⟩ => ⟨S1024x1024, .i1⟩
  | .hbm, ⟨68, _⟩ => ⟨S_, .f32⟩
  | .hbm, ⟨69, _⟩ => ⟨S_, .f32⟩
  | .hbm, ⟨70, _⟩ => ⟨S1024x1024, .f32⟩
  | .hbm, ⟨71, _⟩ => ⟨S1024x1024, .f32⟩
  | .hbm, ⟨72, _⟩ => ⟨S1x1x1024x1024, .f32⟩
  | .hbm, ⟨73, _⟩ => ⟨S2x32x1024x1024, .f32⟩
  | .hbm, ⟨74, _⟩ => ⟨S2x32x1024x1024, .f32⟩
  | .hbm, ⟨75, _⟩ => ⟨S_, .f32⟩
  | .hbm, ⟨76, _⟩ => ⟨S2x32x1024, .f32⟩
  | .hbm, ⟨77, _⟩ => ⟨S_, .f32⟩
  | .hbm, ⟨78, _⟩ => ⟨S2x32x1024, .f32⟩
  | .hbm, ⟨79, _⟩ => ⟨S2x32x1024, .f32⟩
  | .hbm, ⟨80, _⟩ => ⟨S2x32x1024x1, .f32⟩
  | .hbm, ⟨81, _⟩ => ⟨S2x32x1024x1024, .f32⟩
  | .hbm, ⟨82, _⟩ => ⟨S2x32x1024x1024, .f32⟩
  | .hbm, ⟨83, _⟩ => ⟨S2x32x1024x1024, .f32⟩
  | .hbm, ⟨84, _⟩ => ⟨S_, .f32⟩
  | .hbm, ⟨85, _⟩ => ⟨S2x32x1024, .f32⟩
  | .hbm, ⟨86, _⟩ => ⟨S2x32x1024x1, .f32⟩
  | .hbm, ⟨87, _⟩ => ⟨S2x32x1024x1024, .f32⟩
  | .hbm, ⟨88, _⟩ => ⟨S2x32x1024x1024, .f32⟩
  | .hbm, ⟨89, _⟩ => ⟨S2x32x128x1024, .f32⟩
  | .hbm, ⟨90, _⟩ => ⟨S2x1024x32x128, .f32⟩
  | .hbm, ⟨91, _⟩ => ⟨S2x1024x4096, .f32⟩
  | .hbm, ⟨92, _⟩ => ⟨S2x1024x4096, .f32⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst : Ref sig .tc := ⟨.hbm, 62, rfl⟩
abbrev main_v53 : Ref sig .tc := ⟨.hbm, 63, rfl⟩
abbrev main_v54 : Ref sig .tc := ⟨.hbm, 64, rfl⟩
abbrev main_cst_0 : Ref sig .tc := ⟨.hbm, 65, rfl⟩
abbrev main_v55 : Ref sig .tc := ⟨.hbm, 66, rfl⟩
abbrev main_v56 : Ref sig .tc := ⟨.hbm, 67, rfl⟩
abbrev main_cst_1 : Ref sig .tc := ⟨.hbm, 68, rfl⟩
abbrev main_call0_v0 : Ref sig .tc := ⟨.hbm, 69, rfl⟩
abbrev main_call0_v1 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_2 : Ref sig .tc := ⟨.hbm, 75, rfl⟩
abbrev main_v61 : Ref sig .tc := ⟨.hbm, 76, rfl⟩
abbrev main_cst_3 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_4 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Proof.Reals.lean ====
/-
  Facts about the extended reals that the equality of the two programs rests on: a nonnegative real factor
  moves through a finite sum, a sum against one row of a permutation picks one entry, real sums and products are
  real, and the softmax with the row maximum subtracted is the softmax without it.
-/
module

public import Idealize.ShloMosaic.PureOps.Ideal

@[expose] public section

noncomputable section

namespace Cert.Reals

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  rw [sub_eq_add_neg]
  exact hx.add hy.neg

/-- A finite sum of real numbers is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- An absolute value below infinity: the number is real. -/
theorem isReal_of_abs_lt {x : EReal} (h : max x (-x) < ⊤) : IsReal x := by
  induction x with
  | bot => simp at h
  | top => simp at h
  | coe r => exact ⟨r, rfl⟩

/-- A nonnegative real factor moves through a finite sum, whatever the summands. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- A sum against the indicator of one index is the entry there. -/
theorem sum_mul_indicator {n : ℕ} (f g : Fin n → EReal) (e : Fin n) (h1 : g e = 1) (h0 : ∀ j, j ≠ e → g j = 0) :
    ∑ j, f j * g j = f e := by
  rw [Finset.sum_eq_single e (fun j _ hj => by rw [h0 j hj, mul_zero]) (fun h => absurd (Finset.mem_univ e) h), h1, mul_one]

/-- A sum over 1024 indices whose upper 512 terms vanish is the sum over the lower 512. -/
theorem sum_lower_half (f : Fin 1024 → EReal) (h : ∀ j : Fin 1024, 512 ≤ j.val → f j = 0) :
    ∑ j : Fin 1024, f j = ∑ j : Fin 512, f ⟨j.val, by omega⟩ := by
  rw [show (∑ j : Fin 1024, f j) = ∑ j : Fin (512 + 512), f (Fin.cast (by norm_num) j) from rfl, Fin.sum_univ_add,
    Finset.sum_eq_zero (s := Finset.univ) (f := fun j : Fin 512 => f (Fin.cast _ (Fin.natAdd 512 j)))
      (fun j _ => h _ (by simp)), add_zero]
  rfl

/-! ## The softmax row -/

/-- One row of the kernel's attention: the exponentials of the scores up to the diagonal, without a subtracted maximum. -/
def weight (s : Fin 1024 → EReal) (i : Fin 1024) (j : Fin 1024) : EReal := Ideal.exp (if i.val < j.val then ⊥ else s j)

/-- The kernel's row of the result: the weighted sum of the values over the sum of the weights. -/
def attend (s v : Fin 1024 → EReal) (i : Fin 1024) : EReal :=
  Ideal.div (∑ j, weight s i j * v j) (∑ j, weight s i j)

/-- The reference's score with its additive mask. -/
def masked (s : Fin 1024 → EReal) (i : Fin 1024) (j : Fin 1024) : EReal := s j + (if i.val < j.val then ⊥ else 0)

/-- The reference's row maximum: the fold of `max` over the masked scores from minus infinity, and that once more. -/
def rowMax (s : Fin 1024 → EReal) (i : Fin 1024) : EReal := max ⊥ (Finset.univ.fold max ⊥ (masked s i))

/-- The reference's row of the result: the values against the softmax of the masked scores. -/
def softmaxRow (s v : Fin 1024 → EReal) (i : Fin 1024) : EReal :=
  ∑ j, v j * Ideal.div (Ideal.exp (masked s i j - rowMax s i)) (∑ k, Ideal.exp (masked s i k - rowMax s i))

/-- The row maximum of real scores is real: the diagonal's score is among those compared. -/
theorem isReal_rowMax (s : Fin 1024 → EReal) (hs : ∀ j, IsReal (s j)) (i : Fin 1024) : IsReal (rowMax s i) := by
  have hlt : rowMax s i < ⊤ := by
    refine max_lt bot_lt_top ((Finset.fold_max_lt _).2 ⟨bot_lt_top, fun j _ => ?_⟩)
    obtain ⟨r, hr⟩ := hs j
    unfold masked
    rw [hr]
    split_ifs
    · simp
    · simpa using EReal.coe_lt_top r
  have hgt : ⊥ < rowMax s i := by
    refine lt_max_of_lt_right ((Finset.lt_fold_max _).2 (Or.inr ⟨i, Finset.mem_univ i, ?_⟩))
    obtain ⟨r, hr⟩ := hs i
    unfold masked
    rw [hr, if_neg (lt_irrefl _), add_zero]
    exact EReal.bot_lt_coe r
  exact ⟨(rowMax s i).toReal, (EReal.coe_toReal hlt.ne hgt.ne').symm⟩

/-- The real weight of column `j` in row `i`: the exponential up to the diagonal, zero past it. -/
def realWeight (r : Fin 1024 → ℝ) (i j : Fin 1024) : ℝ := if i.val < j.val then 0 else Real.exp (r j)

theorem realWeight_nonneg (r : Fin 1024 → ℝ) (i j : Fin 1024) : 0 ≤ realWeight r i j := by
  unfold realWeight
  split_ifs
  · exact le_rfl
  · exact (Real.exp_pos _).le

theorem realWeight_sum_pos (r : Fin 1024 → ℝ) (i : Fin 1024) : 0 < ∑ j, realWeight r i j :=
  Finset.sum_pos' (fun j _ => realWeight_nonneg r i j) ⟨i, Finset.mem_univ i, by
    unfold realWeight
    rw [if_neg (lt_irrefl _)]
    exact Real.exp_pos _⟩

theorem weight_coe (r : Fin 1024 → ℝ) (i j : Fin 1024) :
    weight (fun k => (r k : EReal)) i j = (realWeight r i j : EReal) := by
  unfold weight realWeight
  split_ifs <;> simp

/-- A finite sum of reals, as an extended real. -/
theorem coe_sum {n : ℕ} (f : Fin n → ℝ) : ∑ j, (f j : EReal) = ((∑ j, f j : ℝ) : EReal) := by
  have h : ∀ s : Finset (Fin n), ∑ j ∈ s, (f j : EReal) = ((∑ j ∈ s, f j : ℝ) : EReal) := fun s => by
    classical
    induction s using Finset.induction_on with
    | empty => simp
    | insert a s ha ih => rw [Finset.sum_insert ha, Finset.sum_insert ha, ih, EReal.coe_add]
  exact h Finset.univ

/-- The exponential of a masked score with a real number subtracted is the weight times a positive constant. -/
theorem exp_masked_sub (r : Fin 1024 → ℝ) (μ : ℝ) (i j : Fin 1024) :
    Ideal.exp (masked (fun k => (r k : EReal)) i j - (μ : EReal)) = ((realWeight r i j * Real.exp (-μ) : ℝ) : EReal) := by
  unfold masked realWeight
  split_ifs with h
  · simp
  · rw [add_zero, ← EReal.coe_sub, Ideal.exp_coe, sub_eq_add_neg, Real.exp_add]

/-- THE SOFTMAX ROW: for real scores the reference's row (the maximum subtracted, normalised, then against the values)
    is the kernel's (no maximum subtracted, against the values, then normalised), whatever the values. -/
theorem softmaxRow_eq_attend (s v : Fin 1024 → EReal) (hs : ∀ j, IsReal (s j)) (i : Fin 1024) :
    softmaxRow s v i = attend s v i := by
  obtain ⟨μ, hμ⟩ := isReal_rowMax s hs i
  choose r hr using hs
  obtain rfl : s = fun k => (r k : EReal) := funext hr
  have hZ := realWeight_sum_pos r i
  unfold softmaxRow attend
  simp only [hμ, exp_masked_sub, weight_coe]
  rw [coe_sum, coe_sum, ← Finset.sum_mul]
  rw [Ideal.div_coe hZ.ne', sum_mul_coe _ _ (by positivity)]
  refine Finset.sum_congr rfl fun j _ => ?_
  rw [Ideal.div_coe (mul_pos hZ (Real.exp_pos _)).ne', ← EReal.coe_mul, mul_comm (v j),
    mul_right_comm (realWeight r i j : EReal), ← EReal.coe_mul]
  congr 2
  have he := (Real.exp_pos (-μ)).ne'
  have hZ' := hZ.ne'
  field_simp

end Cert.Reals

end
-- ==== Proof.Heads.lean ====
/- One head of the attention call's body at an index: the products of a query block and a key block, the causal mask,
   the exponentials, their sums and the quotient. The body does the upper 512 rows against the first 512 keys and the
   lower 512 rows against all 1024. -/
module
public import proofs.«01_k».proof.Proof.Gen.KernelIdeal.Skeleton
public import proofs.«01_k».proof.Proof.Reals
public import Idealize.ShloMosaic.Lib.Pointwise
@[expose] public section
set_option maxRecDepth 16384
noncomputable section
namespace Cert.Heads
open Idealize.ShloMosaic Idealize.ShloMosaic.TcCoe
open Cert.KernelIdeal Cert.KernelIdeal.Gen Cert.Reals

/-- The scores of the upper rows against the first keys. -/
def topScores (q k : FVec Ideal S1024x128 .bf16) : FVec Ideal S512x512 .f32 :=
  matmul dot_S512x128_S512x128_S512x512_1_1_0_0_n_n none
    (extractStridedSlice S512x128 ![0, 0] q slices_S1024x128_o0_0_S512x128)
    (extractStridedSlice S512x128 ![0, 0] k slices_S1024x128_o0_0_S512x128)
    (constant S512x512 .f32 0x00000000#32 : FVec Ideal S512x512 .f32)

/-- A head's upper rows. -/
def top (q k v : FVec Ideal S1024x128 .bf16) : FVec Ideal S512x128 .bf16 :=
  k2_pay8 v (topScores q k) (iota .tc S512x512 32 [0] iota_S512x512_d0_w32)

/-- A head's lower rows. -/
def bottom (q k v : FVec Ideal S1024x128 .bf16) : FVec Ideal S512x128 .bf16 := k2_pay9 k v q

/-- The mask's constant is `⊥` in the idealized kernel. -/
theorem mask_bot : ((Named.named (φ := .f32) κ "mask" 0xCE6E6B28#32 : Ideal .f32) : EReal) = ⊥ :=
  IdealRules.named_const.ideal_named_scalar _ _ _ _ rfl

/-- The body's choice between the mask and a score, on coordinates as 32-bit words: the mask where the column is past
    the row. -/
theorem select_past (o i x : ℕ) (ho : o ≤ 512) (hi : i < 512) (hx : x < 1024) (s : EReal) :
    Scalar.select (IntOp.cmpi CmpIPredicate.sgt (BitVec.ofNat 32 x) (IntOp.addi (BitVec.ofNat 32 o) (BitVec.ofNat 32 i)))
      (Named.named (φ := .f32) κ "mask" 0xCE6E6B28#32 : Ideal .f32) s = if o + i < x then ⊥ else s := by
  rw [mask_bot]
  unfold Scalar.select IntOp.cmpi IntOp.addi
  have h1 : (BitVec.ofNat 32 x).toInt = x := by
    rw [BitVec.toInt_eq_toNat_of_lt (by rw [BitVec.toNat_ofNat, Nat.mod_eq_of_lt (by omega)]; omega), BitVec.toNat_ofNat, Nat.mod_eq_of_lt (by omega)]
  have h2 : (BitVec.ofNat 32 o + BitVec.ofNat 32 i).toInt = (o + i : ℕ) := by
    rw [← BitVec.ofNat_add, BitVec.toInt_eq_toNat_of_lt (by rw [BitVec.toNat_ofNat, Nat.mod_eq_of_lt (by omega)]; omega), BitVec.toNat_ofNat, Nat.mod_eq_of_lt (by omega)]
  by_cases h : o + i < x
  · rw [if_pos h]
    have : (BitVec.ofNat 32 o + BitVec.ofNat 32 i).slt (BitVec.ofNat 32 x) = true := by
      rw [BitVec.slt, h1, h2]; exact decide_eq_true (by omega)
    simp only [this]
    rfl
  · rw [if_neg h]
    have : (BitVec.ofNat 32 o + BitVec.ofNat 32 i).slt (BitVec.ofNat 32 x) = false := by
      rw [BitVec.slt, h1, h2]; exact decide_eq_false (by omega)
    simp only [this]
    rfl

theorem topScores_at (q k : FVec Ideal S1024x128 .bf16) (i j : Fin 512) :
    topScores q k (ix2 i j) = ∑ e : Fin 128, q (ix2 ⟨i.val, by omega⟩ e) * k (ix2 ⟨j.val, by omega⟩ e) := by
  pointwise [topScores]

theorem top_raw (s : FVec Ideal S512x512 .f32) (v : FVec Ideal S1024x128 .bf16) (i : Fin 512) (d : Fin 128) :
    k2_pay8 v s (iota .tc S512x512 32 [0] iota_S512x512_d0_w32) (ix2 i d)
      = Ideal.div (∑ j : Fin 512, Ideal.exp (if i.val < j.val then ⊥ else s (ix2 i j)) * v (ix2 ⟨j.val, by omega⟩ d))
          (∑ j : Fin 512, Ideal.exp (if i.val < j.val then ⊥ else s (ix2 i j))) := by
  have e : ∀ j : Fin 512, (if i.val < j.val then ⊥ else s (ix2 i j)) = Scalar.select (IntOp.cmpi CmpIPredicate.sgt (BitVec.ofNat 32 j.val) (IntOp.addi (0#32) (BitVec.ofNat 32 i.val)))
      (Named.named (φ := .f32) κ "mask" 0xCE6E6B28#32 : Ideal .f32) (s (ix2 i j)) := fun j => by
    rw [select_past 0 i.val j.val (by omega) (by omega) (by omega), Nat.zero_add]
  simp only [e]
  pointwise [k2_pay8]

theorem bottom_raw (q k v : FVec Ideal S1024x128 .bf16) (i : Fin 512) (d : Fin 128) :
    bottom q k v (ix2 i d)
      = Ideal.div (∑ j : Fin 1024, Ideal.exp (if 512 + i.val < j.val then ⊥ else ∑ e : Fin 128, q (ix2 ⟨512 + i.val, by omega⟩ e) * k (ix2 j e)) * v (ix2 j d))
          (∑ j : Fin 1024, Ideal.exp (if 512 + i.val < j.val then ⊥ else ∑ e : Fin 128, q (ix2 ⟨512 + i.val, by omega⟩ e) * k (ix2 j e))) := by
  have e : ∀ j : Fin 1024, (if 512 + i.val < j.val then ⊥ else ∑ e : Fin 128, q (ix2 ⟨512 + i.val, by omega⟩ e) * k (ix2 j e)) = Scalar.select (IntOp.cmpi CmpIPredicate.sgt (BitVec.ofNat 32 j.val) (IntOp.addi (512#32) (BitVec.ofNat 32 i.val)))
      (Named.named (φ := .f32) κ "mask" 0xCE6E6B28#32 : Ideal .f32) (∑ e : Fin 128, q (ix2 ⟨512 + i.val, by omega⟩ e) * k (ix2 j e)) := fun j => by
    rw [select_past 512 i.val j.val (by omega) (by omega) (by omega)]
  simp only [e]
  pointwise [bottom, k2_pay9]

/-- The score of query row `i` and key row `j`. -/
def dot (q k : FVec Ideal S1024x128 .bf16) (i j : Fin 1024) : EReal := ∑ e : Fin 128, q (ix2 i e) * k (ix2 j e)

/-- THE UPPER ROWS of a head: row `i` attends to the keys up to `i`, of all 1024. -/
theorem top_at (q k v : FVec Ideal S1024x128 .bf16) (i : Fin 512) (d : Fin 128) :
    top q k v (ix2 i d) = attend (dot q k ⟨i.val, by omega⟩) (fun j => v (ix2 j d)) ⟨i.val, by omega⟩ := by
  unfold top attend
  rw [top_raw]
  have hz : ∀ j : Fin 1024, 512 ≤ j.val → weight (dot q k ⟨i.val, by omega⟩) ⟨i.val, by omega⟩ j = 0 := fun j hj => by
    unfold weight
    rw [if_pos (show i.val < j.val by omega), Ideal.exp_bot]
  have hw := sum_lower_half (fun j => weight (dot q k ⟨i.val, by omega⟩) ⟨i.val, by omega⟩ j) hz
  have hv := sum_lower_half (fun j => weight (dot q k ⟨i.val, by omega⟩) ⟨i.val, by omega⟩ j * v (ix2 j d)) fun j hj => by rw [hz j hj, zero_mul]
  rw [hw, hv]
  simp only [topScores_at, weight, dot]

/-- THE LOWER ROWS of a head. -/
theorem bottom_at (q k v : FVec Ideal S1024x128 .bf16) (i : Fin 512) (d : Fin 128) :
    bottom q k v (ix2 i d) = attend (dot q k ⟨512 + i.val, by omega⟩) (fun j => v (ix2 j d)) ⟨512 + i.val, by omega⟩ :=
  bottom_raw q k v i d

end Cert.Heads
end
end
-- ==== Proof.Spec.lean ====
/-
  The attention layer in coordinates, over the extended reals: what both programs compute. A sum over the model axis
  for each projection, the rotation of a head's row by interleaved pairs, the score of a query against a key, and the
  row of attended values; the result is the output projection of those.
-/
module

public import proofs.«01_k».proof.ReferenceIdeal
public import proofs.«01_k».proof.Proof.Reals
public import Idealize.ShloMosaic.Lib.Pointwise

@[expose] public section

set_option maxRecDepth 16384

noncomputable section

namespace Cert.Spec

open Idealize.ShloMosaic Cert.ReferenceIdeal Cert.Reals

/-- One entry of a query projection: row `s` of batch `b` against column `n`. -/
def dotQ (X : FVec Ideal S2x1024x4096 .f32) (W : FVec Ideal S4096x4096 .f32) (b : Fin 2) (s : Fin 1024) (n : Fin 4096) : EReal :=
  ∑ k : Fin 4096, X (ix3 b s k) * W (ix2 k n)

/-- One entry of a key or value projection. -/
def dotK (X : FVec Ideal S2x1024x4096 .f32) (W : FVec Ideal S4096x1024 .f32) (b : Fin 2) (s : Fin 1024) (n : Fin 1024) : EReal :=
  ∑ k : Fin 4096, X (ix3 b s k) * W (ix2 k n)

/-- The partner of a coordinate in its rotation pair: an even one's successor, an odd one's predecessor. -/
def partner {n : ℕ} (d : Fin (2 * n)) : Fin (2 * n) := ⟨d.val + 1 - 2 * (d.val % 2), by omega⟩

/-- The sine a coordinate's partner is multiplied by: negative on even coordinates. -/
def signedSin (Sn : FVec Ideal S1024x64 .f32) (s : Fin 1024) (d : Fin 128) : EReal :=
  if d.val % 2 = 0 then -Sn (ix2 s ⟨d.val / 2, by omega⟩) else Sn (ix2 s ⟨d.val / 2, by omega⟩)

/-- A head's row rotated at position `s`. -/
def rope (row : Fin 128 → EReal) (C Sn : FVec Ideal S1024x64 .f32) (s : Fin 1024) (d : Fin 128) : EReal :=
  row d * C (ix2 s ⟨d.val / 2, by omega⟩) + row (partner (n := 64) d) * signedSin Sn s d

/-- Head `h` of the query projection at row `s`. -/
def qRow (X : FVec Ideal S2x1024x4096 .f32) (Wq : FVec Ideal S4096x4096 .f32) (b : Fin 2) (h : Fin 32) (s : Fin 1024) (d : Fin 128) : EReal :=
  dotQ X Wq b s ⟨h.val * 128 + d.val, by omega⟩

/-- Group `g` of the key (or value) projection at row `s`. -/
def kRow (X : FVec Ideal S2x1024x4096 .f32) (Wk : FVec Ideal S4096x1024 .f32) (b : Fin 2) (g : Fin 8) (s : Fin 1024) (d : Fin 128) : EReal :=
  dotK X Wk b s ⟨g.val * 128 + d.val, by omega⟩

/-- The scale of the scores: the single-precision reciprocal square root of the head size. -/
def scale : EReal := Ideal.ofBits .f32 0x3DB504F3#32

/-- The scaled score of query `i` against key `j`, head `h`. -/
def score (X : FVec Ideal S2x1024x4096 .f32) (C Sn : FVec Ideal S1024x64 .f32) (Wq : FVec Ideal S4096x4096 .f32)
    (Wk : FVec Ideal S4096x1024 .f32) (b : Fin 2) (h : Fin 32) (i j : Fin 1024) : EReal :=
  (∑ d : Fin 128, rope (qRow X Wq b h i) C Sn i d * rope (kRow X Wk b ⟨h.val / 4, by omega⟩ j) C Sn j d) * scale

/-- The attended value of head `h` at row `i`, coordinate `d`. -/
def attended (X : FVec Ideal S2x1024x4096 .f32) (C Sn : FVec Ideal S1024x64 .f32) (Wq : FVec Ideal S4096x4096 .f32)
    (Wk Wv : FVec Ideal S4096x1024 .f32) (b : Fin 2) (h : Fin 32) (i : Fin 1024) (d : Fin 128) : EReal :=
  attend (score X C Sn Wq Wk b h i) (fun j => kRow X Wv b ⟨h.val / 4, by omega⟩ j d) i

/-- THE LAYER at row `s` of batch `b`, column `n`: the output projection of the attended values. -/
def layer (X : FVec Ideal S2x1024x4096 .f32) (C Sn : FVec Ideal S1024x64 .f32) (Wq : FVec Ideal S4096x4096 .f32)
    (Wk Wv : FVec Ideal S4096x1024 .f32) (Wo : FVec Ideal S4096x4096 .f32) (b : Fin 2) (s : Fin 1024) (n : Fin 4096) : EReal :=
  ∑ k : Fin 4096, attended X C Sn Wq Wk Wv b ⟨k.val / 128, by omega⟩ s ⟨k.val % 128, by omega⟩ * Wo (ix2 k n)

/-- The scale is a positive real number: `11863283 / 2 ^ 27`. -/
theorem scale_eq : scale = ((11863283 / 134217728 : ℝ) : EReal) := by
  have hs : ((0x3DB504F3#32).extractLsb' (8 + 23) 1 == 1#1) = false := by decide
  have he : ((0x3DB504F3#32).extractLsb' 23 8).toNat = 123 := by decide
  have hf : ((0x3DB504F3#32).extractLsb' 0 23).toNat = 3474675 := by decide
  unfold scale Ideal.ofBits Ideal.ieee
  simp only [hs, he, hf]
  norm_num

/-- The words of the two infinities. -/
theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

theorem isReal_scale : IsReal scale := ⟨_, scale_eq⟩

/-- With finite inputs and finite query and key weights every score is real. -/
theorem isReal_score (X : FVec Ideal S2x1024x4096 .f32) (C Sn : FVec Ideal S1024x64 .f32) (Wq : FVec Ideal S4096x4096 .f32)
    (Wk : FVec Ideal S4096x1024 .f32) (hX : ∀ i, IsReal (X i)) (hC : ∀ i, IsReal (C i)) (hS : ∀ i, IsReal (Sn i))
    (hq : ∀ i, IsReal (Wq i)) (hk : ∀ i, IsReal (Wk i)) (b : Fin 2) (h : Fin 32) (i j : Fin 1024) :
    IsReal (score X C Sn Wq Wk b h i j) := by
  have hsin : ∀ s d, IsReal (signedSin Sn s d) := fun s d => by
    unfold signedSin
    split_ifs
    · exact (hS _).neg
    · exact hS _
  have hrope : ∀ (row : Fin 128 → EReal), (∀ d, IsReal (row d)) → ∀ s d, IsReal (rope row C Sn s d) := fun row hr s d =>
    ((hr _).mul (hC _)).add ((hr _).mul (hsin s d))
  refine IsReal.mul (IsReal.sum _ _ fun d => (hrope _ (fun d => ?_) _ _).mul (hrope _ (fun d => ?_) _ _)) isReal_scale
  · unfold qRow dotQ
    exact IsReal.sum _ _ fun k => (hX _).mul (hq _)
  · unfold kRow dotK
    exact IsReal.sum _ _ fun k => (hX _).mul (hk _)

end Cert.Spec

end
-- ==== Proof.Attn.lean ====
/- The attention call's body on its blocks: the rotations of the query and the key block, and the eight stores, which
   together are four heads of attention under the causal mask. -/
module
public import proofs.«01_k».proof.Proof.Heads
public import proofs.«01_k».proof.Proof.Spec
public import proofs.«01_k».proof.Proof.Gen.KernelIdeal.Frame
public import Idealize.ShloMosaic.Lib.Pipeline.ValueKit
@[expose] public section
set_option maxRecDepth 16384
noncomputable section
namespace Cert.Attn
open Idealize.ShloMosaic Idealize.ShloMosaic.TcCoe
open Cert.KernelIdeal Cert.KernelIdeal.Gen Cert.Reals Cert.Heads Cert.Spec

/-! ## The rotations -/

theorem keys_raw (k : FVec Ideal S1024x128 .bf16) (P : FVec Ideal S128x128 .bf16) (C Sn : FVec Ideal S1024x128 .f32) (s : Fin 1024) (d : Fin 128) :
    k2_pay3 (F := Ideal) k P C Sn (ix2 s d) = k (ix2 s d) * C (ix2 s d) + (∑ e : Fin 128, k (ix2 s e) * P (ix2 e d)) * Sn (ix2 s d) := by
  pointwise [k2_pay3]

theorem queries_raw (q : FVec Ideal S1024x512 .bf16) (P : FVec Ideal S512x512 .bf16) (C Sn : FVec Ideal S1024x128 .f32) (s : Fin 1024) (n : Fin 512) :
    k2_pay4 (F := Ideal) q P C Sn (ix2 s n)
      = q (ix2 s n) * C (ix2 s ⟨n.val % 128, by omega⟩) + (∑ e : Fin 512, q (ix2 s e) * P (ix2 e n)) * Sn (ix2 s ⟨n.val % 128, by omega⟩) := by
  pointwise [k2_pay4]
  blk_point []

/-- The table holds one where the column is the row's partner and zero elsewhere. -/
def IsSwap {n : ℕ} (P : FVec Ideal ⟨2, ![n, n]⟩ .bf16) : Prop :=
  ∀ r c : Fin n, P (ix2 r c) = if c.val + 2 * (r.val % 2) = r.val + 1 then 1 else 0

/-- A row times such a table, at a column: the row at the column's partner. -/
theorem sum_swap {n : ℕ} (P : FVec Ideal ⟨2, ![2 * n, 2 * n]⟩ .bf16) (hP : IsSwap P) (f : Fin (2 * n) → EReal) (c : Fin (2 * n)) :
    ∑ e : Fin (2 * n), f e * P (ix2 e c) = f (partner c) := by
  refine sum_mul_indicator f (fun e => P (ix2 e c)) (partner c) ?_ ?_
  · rw [hP, if_pos]
    simp only [partner]
    omega
  · intro j hj
    rw [hP, if_neg]
    intro h
    exact hj (Fin.ext (by simp only [partner] at *; omega))

/-- The part of the table the key rotation loads. -/
theorem isSwap_corner (x3 : FVec Ideal S512x512 .bf16) (hP : IsSwap x3) (L : FVec Ideal S128x128 .bf16) (hL : L = View.ld (Val := Elt Ideal) (e' := .bf16) x3 r2_1) : IsSwap L := by
  intro r c
  have e : L (ix2 r c) = x3 (ix2 ⟨r.val, by omega⟩ ⟨c.val, by omega⟩) := by
    rw [hL]
    pointwise
  rw [e, hP]

/-- The rotated keys: every coordinate times its cosine, plus its partner times its signed sine. -/
theorem keys_rot (k : FVec Ideal S1024x128 .bf16) (P : FVec Ideal S128x128 .bf16) (C Sn : FVec Ideal S1024x128 .f32) (hP : IsSwap P)
    (s : Fin 1024) (d : Fin 128) :
    k2_pay3 (F := Ideal) k P C Sn (ix2 s d) = k (ix2 s d) * C (ix2 s d) + k (ix2 s (partner (n := 64) d)) * Sn (ix2 s d) := by
  rw [keys_raw, sum_swap (n := 64) P hP (fun e => k (ix2 s e)) d]

/-- The rotated queries, four heads side by side. -/
theorem queries_rot (q : FVec Ideal S1024x512 .bf16) (P : FVec Ideal S512x512 .bf16) (C Sn : FVec Ideal S1024x128 .f32) (hP : IsSwap P)
    (s : Fin 1024) (n : Fin 512) :
    k2_pay4 (F := Ideal) q P C Sn (ix2 s n)
      = q (ix2 s n) * C (ix2 s ⟨n.val % 128, by omega⟩) + q (ix2 s (partner (n := 256) n)) * Sn (ix2 s ⟨n.val % 128, by omega⟩) := by
  rw [queries_raw, sum_swap (n := 256) P hP (fun e => q (ix2 s e)) n]

/-- A load of a whole block is the block. -/
theorem whole_128 (x L : FVec Ideal S1024x128 .f32) (hL : L = View.ld (Val := Elt Ideal) (e' := .f32) x r2_0) : L = x := by
  rw [hL]
  funext i
  idx_vars i
  pointwise

theorem whole_keys (x L : FVec Ideal S1024x128 .bf16) (hL : L = View.ld (Val := Elt Ideal) (e' := .bf16) x r2_0) : L = x := by
  rw [hL]
  funext i
  idx_vars i
  pointwise

theorem whole_512 (x L : FVec Ideal S1024x512 .bf16) (hL : L = View.ld (Val := Elt Ideal) (e' := .bf16) x r2_2) : L = x := by
  rw [hL]
  funext i
  idx_vars i
  pointwise

theorem whole_table (x L : FVec Ideal S512x512 .bf16) (hL : L = View.ld (Val := Elt Ideal) (e' := .bf16) x r2_3) : L = x := by
  rw [hL]
  funext i
  idx_vars i
  pointwise

theorem keys_at (x0 : FVec Ideal S1024x512 .bf16) (x1 x2 : FVec Ideal S1024x128 .bf16) (x3 : FVec Ideal S512x512 .bf16) (x4 x5 x6 x7 : FVec Ideal S1024x128 .f32)
    (hP : IsSwap x3) (s : Fin 1024) (d : Fin 128) :
    k2_pay24 (F := Ideal) x0 x1 x2 x3 x4 x5 x6 x7 (ix2 s d) = x1 (ix2 s d) * x6 (ix2 s d) + x1 (ix2 s (partner (n := 64) d)) * x7 (ix2 s d) := by
  unfold k2_pay24
  rw [keys_rot _ _ _ _ (isSwap_corner x3 hP _ rfl), whole_keys x1 _ rfl, whole_128 x6 _ rfl, whole_128 x7 _ rfl]

theorem queries_at (x0 : FVec Ideal S1024x512 .bf16) (x1 x2 : FVec Ideal S1024x128 .bf16) (x3 : FVec Ideal S512x512 .bf16) (x4 x5 x6 x7 : FVec Ideal S1024x128 .f32)
    (hP : IsSwap x3) (s : Fin 1024) (n : Fin 512) :
    k2_pay25 (F := Ideal) x0 x1 x2 x3 x4 x5 x6 x7 (ix2 s n)
      = x0 (ix2 s n) * x4 (ix2 s ⟨n.val % 128, by omega⟩) + x0 (ix2 s (partner (n := 256) n)) * x5 (ix2 s ⟨n.val % 128, by omega⟩) := by
  unfold k2_pay25
  rw [whole_table x3 _ rfl, whole_512 x0 _ rfl, whole_128 x4 _ rfl, whole_128 x5 _ rfl, queries_rot _ _ _ _ hP]

theorem values_at (x0 : FVec Ideal S1024x512 .bf16) (x1 x2 : FVec Ideal S1024x128 .bf16) (x3 : FVec Ideal S512x512 .bf16) (x4 x5 x6 x7 : FVec Ideal S1024x128 .f32)
    (s : Fin 1024) (d : Fin 128) : k2_pay26 (F := Ideal) x0 x1 x2 x3 x4 x5 x6 x7 (ix2 s d) = x2 (ix2 s d) := by
  pointwise [k2_pay26, k2_pay5]

/-! ## The eight stores -/

/-- Four heads of attention side by side: column `n` is head `n / 128`, coordinate `n % 128`. -/
def heads (q : FVec Ideal S1024x512 .bf16) (k v : FVec Ideal S1024x128 .bf16) (i : Fin 1024) (n : Fin 512) : EReal :=
  attend (fun j => ∑ e : Fin 128, q (ix2 i ⟨n.val / 128 * 128 + e.val, by omega⟩) * k (ix2 j e)) (fun j => v (ix2 j ⟨n.val % 128, by omega⟩)) i

/-- A head's upper rows, of the query columns from `o` on, are `heads` there. -/
theorem heads_top (q : FVec Ideal S1024x512 .bf16) (k v w : FVec Ideal S1024x128 .bf16) (o : ℕ) (ho : o + 128 ≤ 512) (hm : o % 128 = 0)
    (hw : ∀ (i : Fin 1024) (e : Fin 128), w (ix2 i e) = q (ix2 i ⟨o + e.val, by omega⟩)) (x : S512x128.Idx) (i : Fin 1024) (n : Fin 512)
    (hi : i.val = (x 0).val) (hn : n.val = o + (x 1).val) : top w k v x = heads q k v i n := by
  obtain ⟨r, d, rfl⟩ : ∃ (r : Fin 512) (d : Fin 128), x = ix2 r d := ⟨x 0, x 1, by idx_vars x⟩
  have hi' : i = ⟨r.val, by omega⟩ := Fin.ext hi
  have hn' : n.val = o + d.val := hn
  rw [top_at, hi']
  unfold heads dot
  simp only [hw]
  have h1 : ∀ e : Fin 128, (⟨n.val / 128 * 128 + e.val, by omega⟩ : Fin 512) = ⟨o + e.val, by omega⟩ := fun e => Fin.ext (by simp only; omega)
  have h2 : (⟨n.val % 128, by omega⟩ : Fin 128) = d := Fin.ext (by simp only; omega)
  simp only [h1, h2]

/-- A head's lower rows likewise. -/
theorem heads_bottom (q : FVec Ideal S1024x512 .bf16) (k v w : FVec Ideal S1024x128 .bf16) (o : ℕ) (ho : o + 128 ≤ 512) (hm : o % 128 = 0)
    (hw : ∀ (i : Fin 1024) (e : Fin 128), w (ix2 i e) = q (ix2 i ⟨o + e.val, by omega⟩)) (x : S512x128.Idx) (i : Fin 1024) (n : Fin 512)
    (hi : i.val = 512 + (x 0).val) (hn : n.val = o + (x 1).val) : bottom w k v x = heads q k v i n := by
  obtain ⟨r, d, rfl⟩ : ∃ (r : Fin 512) (d : Fin 128), x = ix2 r d := ⟨x 0, x 1, by idx_vars x⟩
  have hi' : i = ⟨512 + r.val, by omega⟩ := Fin.ext hi
  have hn' : n.val = o + d.val := hn
  rw [bottom_at, hi']
  unfold heads dot
  simp only [hw]
  have h1 : ∀ e : Fin 128, (⟨n.val / 128 * 128 + e.val, by omega⟩ : Fin 512) = ⟨o + e.val, by omega⟩ := fun e => Fin.ext (by simp only; omega)
  have h2 : (⟨n.val % 128, by omega⟩ : Fin 128) = d := Fin.ext (by simp only; omega)
  simp only [h1, h2]

theorem slice0 (q : FVec Ideal S1024x512 .bf16) (i : Fin 1024) (e : Fin 128) :
    extractStridedSlice S1024x128 ![0, 0] q slices_S1024x512_o0_0_S1024x128 (ix2 i e) = q (ix2 i ⟨0 + e.val, by omega⟩) := by pointwise
theorem slice1 (q : FVec Ideal S1024x512 .bf16) (i : Fin 1024) (e : Fin 128) : k2_pay10 q (ix2 i e) = q (ix2 i ⟨128 + e.val, by omega⟩) := by
  pointwise [k2_pay10]
theorem slice2 (q : FVec Ideal S1024x512 .bf16) (i : Fin 1024) (e : Fin 128) : k2_pay15 q (ix2 i e) = q (ix2 i ⟨256 + e.val, by omega⟩) := by
  pointwise [k2_pay15]
theorem slice3 (q : FVec Ideal S1024x512 .bf16) (i : Fin 1024) (e : Fin 128) : k2_pay19 q (ix2 i e) = q (ix2 i ⟨384 + e.val, by omega⟩) := by
  pointwise [k2_pay19]

/- Each store's payload is one head's upper or lower rows: the body writes the same operations four times over. -/
theorem upper0 (k0 : FVec Ideal S1024x128 .bf16) (P : FVec Ideal S128x128 .bf16) (C Sn : FVec Ideal S1024x128 .f32) (q0 : FVec Ideal S1024x512 .bf16)
    (Q : FVec Ideal S512x512 .bf16) (Cq Sq : FVec Ideal S1024x128 .f32) (v : FVec Ideal S1024x128 .bf16) :
    k2_pay8 v (k2_pay7 k0 P C Sn q0 Q Cq Sq) (iota .tc S512x512 32 [0] iota_S512x512_d0_w32)
      = top (k2_pay6 q0 Q Cq Sq) (k2_pay3 k0 P C Sn) v := rfl
theorem lower0 (q k v : FVec Ideal S1024x128 .bf16) : k2_pay9 k v q = bottom q k v := rfl
theorem upper1 (q : FVec Ideal S1024x512 .bf16) (k v : FVec Ideal S1024x128 .bf16) :
    k2_pay13 v (k2_pay11 k q) k2_pay12 = top (k2_pay10 q) k v := rfl
theorem lower1 (q k v : FVec Ideal S1024x128 .bf16) : k2_pay14 k v q = bottom q k v := rfl
theorem upper2 (q : FVec Ideal S1024x512 .bf16) (k v : FVec Ideal S1024x128 .bf16) :
    k2_pay17 v (k2_pay16 k q) = top (k2_pay15 q) k v := rfl
theorem lower2 (q k v : FVec Ideal S1024x128 .bf16) : k2_pay18 k v q = bottom q k v := rfl
theorem upper3 (q : FVec Ideal S1024x512 .bf16) (k v : FVec Ideal S1024x128 .bf16) :
    k2_pay1 (k2_pay21 k q) (k2_pay22 k q) (k2_pay23 v) (constant S512x128 .f32 0x00000000#32) = top (k2_pay19 q) k v := rfl
theorem lower3 (q k v : FVec Ideal S1024x128 .bf16) : k2_pay2 k v q = bottom q k v := rfl

theorem head0 (q0 : FVec Ideal S1024x512 .bf16) (Q : FVec Ideal S512x512 .bf16) (Cq Sq : FVec Ideal S1024x128 .f32) (i : Fin 1024) (e : Fin 128) :
    k2_pay6 (F := Ideal) q0 Q Cq Sq (ix2 i e) = k2_pay4 (F := Ideal) q0 Q Cq Sq (ix2 i ⟨0 + e.val, by omega⟩) :=
  slice0 (k2_pay4 (F := Ideal) q0 Q Cq Sq) i e

/-- WHAT THE BODY LEAVES in its result block: the four heads, at every index. -/
theorem out_at (x0 : FVec Ideal S1024x512 .bf16) (x1 x2 : FVec Ideal S1024x128 .bf16) (x3 : FVec Ideal S512x512 .bf16) (x4 x5 x6 x7 : FVec Ideal S1024x128 .f32)
    (y : S1024x512.Idx) :
    (out2_8 (F := Ideal) x0 x1 x2 x3 x4 x5 x6 x7 y : EReal) = heads (k2_pay25 (F := Ideal) x0 x1 x2 x3 x4 x5 x6 x7) (k2_pay24 (F := Ideal) x0 x1 x2 x3 x4 x5 x6 x7) (k2_pay26 (F := Ideal) x0 x1 x2 x3 x4 x5 x6 x7)
      ⟨(y 0).val, (y 0).isLt⟩ ⟨(y 1).val, (y 1).isLt⟩ := by
  unfold out2_8
  canon_tiles x h
  case piece0 => exact (congrFun (lower3 _ _ _) x).trans (heads_bottom _ _ _ _ 384 (by omega) rfl (slice3 _) x _ _ h0 h1)
  case piece1 => exact (congrFun (upper3 _ _ _) x).trans (heads_top _ _ _ _ 384 (by omega) rfl (slice3 _) x _ _ h0 h1)
  case piece2 => exact (congrFun (lower2 _ _ _) x).trans (heads_bottom _ _ _ _ 256 (by omega) rfl (slice2 _) x _ _ h0 h1)
  case piece3 => exact (congrFun (upper2 _ _ _) x).trans (heads_top _ _ _ _ 256 (by omega) rfl (slice2 _) x _ _ h0 h1)
  case piece4 => exact (congrFun (lower1 _ _ _) x).trans (heads_bottom _ _ _ _ 128 (by omega) rfl (slice1 _) x _ _ h0 h1)
  case piece5 => exact (congrFun (upper1 _ _ _) x).trans (heads_top _ _ _ _ 128 (by omega) rfl (slice1 _) x _ _ h0 h1)
  case piece6 =>
    exact (congrFun (lower0 _ _ _) x).trans (heads_bottom _ _ _ _ 0 (by omega) rfl (head0 _ _ _ _) x _ _ h0 (h1.trans (Nat.zero_add _).symm))
  case piece7 =>
    exact (congrFun (upper0 _ _ _ _ _ _ _ _ _) x).trans
      (heads_top _ _ _ _ 0 (by omega) rfl (head0 _ _ _ _) x _ _ h0 (h1.trans (Nat.zero_add _).symm))

end Cert.Attn
end
end
-- ==== Proof.Call.lean ====
/- The attention call, of whatever arrays it finds: what it leaves in its result. -/
module
public import proofs.«01_k».proof.Proof.Attn
@[expose] public section
set_option maxRecDepth 16384
noncomputable section
namespace Cert.Call
open Idealize.ShloMosaic Idealize.ShloMosaic.TcCoe Idealize.SL.Sem
open Idealize.ShloMosaic.Pipeline (Dat)
open Cert.KernelIdeal Cert.KernelIdeal.Gen Cert.Reals Cert.Heads Cert.Spec Cert.Attn

/-- A rotated query coordinate: batch `b`, head `h`, position `i`, coordinate `e`, of the projected queries `Q`. -/
def rotQ (Q : FVec Ideal S2048x4096 .bf16) (Cq Sq : FVec Ideal S1024x128 .f32) (b : Fin 2) (h : Fin 32) (i : Fin 1024) (e : Fin 128) : EReal :=
  Q (ix2 ⟨b.val * 1024 + i.val, by omega⟩ ⟨h.val * 128 + e.val, by omega⟩) * Cq (ix2 i e)
    + Q (ix2 ⟨b.val * 1024 + i.val, by omega⟩ ⟨h.val * 128 + (partner (n := 64) e).val, by omega⟩) * Sq (ix2 i e)

/-- A rotated key coordinate: batch `b`, key head `g`, position `j`, coordinate `e`, of the projected keys and values. -/
def rotK (KV : FVec Ideal S2048x2048 .bf16) (C Sn : FVec Ideal S1024x128 .f32) (b : Fin 2) (g : Fin 8) (j : Fin 1024) (e : Fin 128) : EReal :=
  KV (ix2 ⟨b.val * 1024 + j.val, by omega⟩ ⟨g.val * 128 + e.val, by omega⟩) * C (ix2 j e)
    + KV (ix2 ⟨b.val * 1024 + j.val, by omega⟩ ⟨g.val * 128 + (partner (n := 64) e).val, by omega⟩) * Sn (ix2 j e)

/-- One coordinate of the attended values. -/
def callAt (Q : FVec Ideal S2048x4096 .bf16) (KV : FVec Ideal S2048x2048 .bf16) (Cq Sq C Sn : FVec Ideal S1024x128 .f32)
    (b : Fin 2) (h : Fin 32) (i : Fin 1024) (d : Fin 128) : EReal :=
  attend (fun j => ∑ e : Fin 128, rotQ Q Cq Sq b h i e * rotK KV C Sn b ⟨h.val / 4, by omega⟩ j e)
    (fun j => KV (ix2 ⟨b.val * 1024 + j.val, by omega⟩ ⟨1024 + h.val / 4 * 128 + d.val, by omega⟩)) i

/-- The call's result. -/
def call (Q : FVec Ideal S2048x4096 .bf16) (KV : FVec Ideal S2048x2048 .bf16) (Cq Sq C Sn : FVec Ideal S1024x128 .f32) :
    FVec Ideal S2048x4096 .bf16 := fun x =>
  callAt Q KV Cq Sq C Sn ⟨(x 0).val / 1024, by have := (x 0).isLt; change (x 0).val < 2048 at this; omega⟩
    ⟨(x 1).val / 128, by have := (x 1).isLt; change (x 1).val < 4096 at this; omega⟩
    ⟨(x 0).val % 1024, by omega⟩ ⟨(x 1).val % 128, by omega⟩

/-- The four heads of one block are the call's result there. -/
theorem heads_eq (x0 : FVec Ideal S1024x512 .bf16) (x1 x2 : FVec Ideal S1024x128 .bf16) (x3 : FVec Ideal S512x512 .bf16) (Cq Sq C Sn : FVec Ideal S1024x128 .f32)
    (Q : FVec Ideal S2048x4096 .bf16) (KV : FVec Ideal S2048x2048 .bf16) (b : Fin 2) (g : Fin 8)
    (h0 : ∀ (s : Fin 1024) (n : Fin 512), x0 (ix2 s n) = Q (ix2 ⟨b.val * 1024 + s.val, by omega⟩ ⟨g.val * 512 + n.val, by omega⟩))
    (h1 : ∀ (s : Fin 1024) (d : Fin 128), x1 (ix2 s d) = KV (ix2 ⟨b.val * 1024 + s.val, by omega⟩ ⟨g.val * 128 + d.val, by omega⟩))
    (h2 : ∀ (s : Fin 1024) (d : Fin 128), x2 (ix2 s d) = KV (ix2 ⟨b.val * 1024 + s.val, by omega⟩ ⟨1024 + g.val * 128 + d.val, by omega⟩))
    (hP : IsSwap x3) (i : Fin 1024) (n : Fin 512) :
    heads (k2_pay25 (F := Ideal) x0 x1 x2 x3 Cq Sq C Sn) (k2_pay24 (F := Ideal) x0 x1 x2 x3 Cq Sq C Sn) (k2_pay26 (F := Ideal) x0 x1 x2 x3 Cq Sq C Sn) i n
      = callAt Q KV Cq Sq C Sn b ⟨g.val * 4 + n.val / 128, by omega⟩ i ⟨n.val % 128, by omega⟩ := by
  unfold heads callAt
  have hg : (⟨(g.val * 4 + n.val / 128) / 4, by omega⟩ : Fin 8) = g := Fin.ext (by simp only; omega)
  have hv : ∀ j : Fin 1024, k2_pay26 (F := Ideal) x0 x1 x2 x3 Cq Sq C Sn (ix2 j ⟨n.val % 128, by omega⟩)
      = KV (ix2 ⟨b.val * 1024 + j.val, by omega⟩ ⟨1024 + (g.val * 4 + n.val / 128) / 4 * 128 + n.val % 128, by omega⟩) := fun j => by
    rw [values_at, h2]
    exact congrArg (fun z => KV (ix2 _ z)) (Fin.ext (by simp only; omega))
  have hk : ∀ (j : Fin 1024) (e : Fin 128), k2_pay24 (F := Ideal) x0 x1 x2 x3 Cq Sq C Sn (ix2 j e) = rotK KV C Sn b g j e := fun j e => by
    rw [keys_at _ _ _ _ _ _ _ _ hP, h1, h1]
    rfl
  have hq : ∀ e : Fin 128, k2_pay25 (F := Ideal) x0 x1 x2 x3 Cq Sq C Sn (ix2 i ⟨n.val / 128 * 128 + e.val, by omega⟩)
      = rotQ Q Cq Sq b ⟨g.val * 4 + n.val / 128, by omega⟩ i e := fun e => by
    rw [queries_at _ _ _ _ _ _ _ _ hP, h0, h0]
    unfold rotQ
    have a1 : (⟨g.val * 512 + (n.val / 128 * 128 + e.val), by omega⟩ : Fin 4096) = ⟨(g.val * 4 + n.val / 128) * 128 + e.val, by omega⟩ :=
      Fin.ext (by simp only; omega)
    have a2 : (⟨g.val * 512 + (partner (n := 256) ⟨n.val / 128 * 128 + e.val, by omega⟩).val, by omega⟩ : Fin 4096)
        = ⟨(g.val * 4 + n.val / 128) * 128 + (partner (n := 64) e).val, by omega⟩ := Fin.ext (by simp only [partner]; omega)
    have a3 : (⟨(n.val / 128 * 128 + e.val) % 128, by omega⟩ : Fin 128) = e := Fin.ext (by simp only; omega)
    simp only [a1, a2, a3]
  simp only [hv, hk, hq, hg]

variable (V : (c : Dev nD) → (b : Ref sig .tc) → Buf (Elt Ideal) ((c : Thread nD τ).loc b))

theorem idx2 : ∀ t : Fin cfg2.N, win2_0.index t = ![t.val / 8, t.val % 8] ∧ win2_1.index t = ![t.val / 8, t.val % 8]
    ∧ win2_2.index t = ![t.val / 8, 8 + t.val % 8] ∧ win2_3.index t = ![0, 0] ∧ win2_4.index t = ![0, 0] ∧ win2_5.index t = ![0, 0]
    ∧ win2_6.index t = ![0, 0] ∧ win2_7.index t = ![0, 0] ∧ win2_8.index t = ![t.val / 8, t.val % 8] :=
  (by decide +kernel : ∀ t : Fin grid2.N, _)

theorem lt16 (t : Fin cfg2.N) : t.val < 16 := t.isLt

theorem blk0 (c : Dev nD) (t : Fin cfg2.N) (s : Fin 1024) (n : Fin 512) : (iblk2 V c 0 t : FVec Ideal S1024x512 .bf16) (ix2 s n)
    = (V c main_v20 : FVec Ideal S2048x4096 .bf16) (ix2 ⟨t.val / 8 * 1024 + s.val, by have := lt16 t; omega⟩ ⟨t.val % 8 * 512 + n.val, by omega⟩) := by
  blk_point [iblk2, idx2 t]

theorem blk1 (c : Dev nD) (t : Fin cfg2.N) (s : Fin 1024) (d : Fin 128) : (iblk2 V c 1 t : FVec Ideal S1024x128 .bf16) (ix2 s d)
    = (V c main_v21 : FVec Ideal S2048x2048 .bf16) (ix2 ⟨t.val / 8 * 1024 + s.val, by have := lt16 t; omega⟩ ⟨t.val % 8 * 128 + d.val, by omega⟩) := by
  blk_point [iblk2, idx2 t]

theorem blk2 (c : Dev nD) (t : Fin cfg2.N) (s : Fin 1024) (d : Fin 128) : (iblk2 V c 2 t : FVec Ideal S1024x128 .bf16) (ix2 s d)
    = (V c main_v21 : FVec Ideal S2048x2048 .bf16) (ix2 ⟨t.val / 8 * 1024 + s.val, by have := lt16 t; omega⟩ ⟨1024 + t.val % 8 * 128 + d.val, by omega⟩) := by
  blk_point [iblk2, idx2 t]

theorem blk3 (c : Dev nD) (t : Fin cfg2.N) : (iblk2 V c 3 t : FVec Ideal S512x512 .bf16) = V c main_v19 := by
  funext y
  idx_vars y
  blk_point [iblk2, idx2 t]
theorem blk4 (c : Dev nD) (t : Fin cfg2.N) : (iblk2 V c 4 t : FVec Ideal S1024x128 .f32) = V c main_v23 := by
  funext y
  idx_vars y
  blk_point [iblk2, idx2 t]
theorem blk5 (c : Dev nD) (t : Fin cfg2.N) : (iblk2 V c 5 t : FVec Ideal S1024x128 .f32) = V c main_v25 := by
  funext y
  idx_vars y
  blk_point [iblk2, idx2 t]
theorem blk6 (c : Dev nD) (t : Fin cfg2.N) : (iblk2 V c 6 t : FVec Ideal S1024x128 .f32) = V c main_v5 := by
  funext y
  idx_vars y
  blk_point [iblk2, idx2 t]
theorem blk7 (c : Dev nD) (t : Fin cfg2.N) : (iblk2 V c 7 t : FVec Ideal S1024x128 .f32) = V c main_v10 := by
  funext y
  idx_vars y
  blk_point [iblk2, idx2 t]

/-- One grid point's result block is the call's result there. -/
theorem point2 (c : Dev nD) (hP : IsSwap (n := 512) (V c main_v19)) (t : Fin cfg2.N) (y) :
    out2_8 (iblk2 V c 0 t) (iblk2 V c 1 t) (iblk2 V c 2 t) (iblk2 V c 3 t) (iblk2 V c 4 t) (iblk2 V c 5 t) (iblk2 V c 6 t) (iblk2 V c 7 t) y
      = call (V c main_v20) (V c main_v21) (V c main_v23) (V c main_v25) (V c main_v5) (V c main_v10) (((cfg2.win 8).blk t).view.emb y) := by
  refine (out_at _ _ _ _ _ _ _ _ y).trans ?_
  have h3 := blk3 V c t
  rw [heads_eq _ _ _ _ _ _ _ _ (V c main_v20) (V c main_v21) ⟨t.val / 8, by have := lt16 t; omega⟩ ⟨t.val % 8, by omega⟩
    (blk0 V c t) (blk1 V c t) (blk2 V c t) (by rw [h3]; exact hP)]
  rw [blk4 V c t, blk5 V c t, blk6 V c t, blk7 V c t]
  unfold call
  have e0 : (((cfg2.win 8).blk t).view.emb y 0).val = t.val / 8 * 1024 + (y 0).val := by blk_simp [idx2 t]
  have e1 : (((cfg2.win 8).blk t).view.emb y 1).val = t.val % 8 * 512 + (y 1).val := by blk_simp [idx2 t]
  have l0 : (y 0).val < 1024 := (y 0).isLt
  have l1 : (y 1).val < 512 := (y 1).isLt
  have l := lt16 t
  congr 1 <;> refine Fin.ext ?_ <;> simp only [e0, e1] <;> omega

theorem final2 (c : Dev nD) (hP : IsSwap (n := 512) (V c main_v19)) : (dat2 V c).arrAt 8 cfg2.N
    = call (V c main_v20) (V c main_v21) (V c main_v23) (V c main_v25) (V c main_v5) (V c main_v10) := by
  refine (dat2 V c).arrAt_eq_of_covers 8 _ (by decide +kernel) fun t _ y => ?_
  blk_simp
  rw [after2_8]
  exact point2 V c hP t y

end Cert.Call
end
end
-- ==== Proof.Proj.lean ====
/- The three calls that are matrix products, of whatever arrays they find: what each leaves in its result. -/
module
public import proofs.«01_k».proof.Proof.Gen.KernelIdeal.Frame
public import Idealize.ShloMosaic.Lib.Pipeline.ValueKit
@[expose] public section
set_option maxRecDepth 16384
noncomputable section
namespace Cert.Proj
open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A row of `X` against a column of `W`. -/
def mulQ (X : FVec Ideal S2048x4096 .bf16) (W : FVec Ideal S4096x4096 .f32) : FVec Ideal S2048x4096 .bf16 :=
  fun i => ∑ k : Fin 4096, X (ix2 ⟨(i 0).val, (i 0).isLt⟩ k) * W (ix2 k ⟨(i 1).val, (i 1).isLt⟩)

/-- The same with a result of the wider format. -/
def mulO (X : FVec Ideal S2048x4096 .bf16) (W : FVec Ideal S4096x4096 .f32) : FVec Ideal S2048x4096 .f32 :=
  fun i => ∑ k : Fin 4096, X (ix2 ⟨(i 0).val, (i 0).isLt⟩ k) * W (ix2 k ⟨(i 1).val, (i 1).isLt⟩)

/-- Keys in the first 1024 columns, values in the last. -/
def mulKV (X : FVec Ideal S2048x4096 .bf16) (Wk Wv : FVec Ideal S4096x1024 .f32) : FVec Ideal S2048x2048 .bf16 :=
  fun i => ∑ k : Fin 4096, X (ix2 ⟨(i 0).val, (i 0).isLt⟩ k) *
    (if h : (i 1).val < 1024 then Wk (ix2 k ⟨(i 1).val, h⟩) else Wv (ix2 k ⟨(i 1).val - 1024, by have := (i 1).isLt; change (i 1).val < 2048 at this; omega⟩))

theorem idx0 : ∀ t : Fin cfg0.N, win0_0.index t = ![t.val / 8, 0] ∧ win0_1.index t = ![0, t.val % 8] ∧ win0_2.index t = ![t.val / 8, t.val % 8] :=
  (by decide +kernel : ∀ t : Fin grid0.N, _)

theorem point0 (c : Dev nD) (t : Fin cfg0.N) (y) :
    out0_2 (iblk0 V c 0 t) (iblk0 V c 1 t) y = mulQ (V c main_v1) (V c main_arg5) (((cfg0.win 2).blk t).view.emb y) := by
  unfold out0_2
  frame_out
  pointwise [k0_pay1, mulQ]
  blk_point [iblk0, idx0 t]

theorem final0 (c : Dev nD) : (dat0 V c).arrAt 2 cfg0.N = mulQ (V c main_v1) (V c main_arg5) := by
  refine (dat0 V c).arrAt_eq_of_covers 2 _ (by decide +kernel) fun t _ y => ?_
  blk_simp
  rw [after0_2]
  exact point0 V c t y

theorem idx3 : ∀ t : Fin cfg3.N, win3_0.index t = ![t.val / 8, 0] ∧ win3_1.index t = ![0, t.val % 8] ∧ win3_2.index t = ![t.val / 8, t.val % 8] :=
  (by decide +kernel : ∀ t : Fin grid3.N, _)

theorem point3 (c : Dev nD) (t : Fin cfg3.N) (y) :
    out3_2 (iblk3 V c 0 t) (iblk3 V c 1 t) y = mulO (V c main_v26) (V c main_arg8) (((cfg3.win 2).blk t).view.emb y) := by
  unfold out3_2
  frame_out
  pointwise [k3_pay1, mulO]
  blk_point [iblk3, idx3 t]

theorem final3 (c : Dev nD) : (dat3 V c).arrAt 2 cfg3.N = mulO (V c main_v26) (V c main_arg8) := by
  refine (dat3 V c).arrAt_eq_of_covers 2 _ (by decide +kernel) fun t _ y => ?_
  blk_simp
  rw [after3_2]
  exact point3 V c t y

theorem idx1 : ∀ t : Fin cfg1.N, win1_0.index t = ![t.val / 4, 0] ∧ win1_1.index t = ![0, min (t.val % 4) 1] ∧ win1_2.index t = ![0, t.val % 4 - 2] ∧ win1_3.index t = ![t.val / 4, t.val % 4] :=
  (by decide +kernel : ∀ t : Fin grid1.N, _)

theorem point1 (c : Dev nD) (t : Fin cfg1.N) (y) :
    outsAt1 V c t.val t.isLt y = mulKV (V c main_v1) (V c main_arg6) (V c main_arg7) (((cfg1.win 3).blk t).view.emb y) := by
  by_cases h : t.val % 4 ≤ 1
  · rw [outsAt1_A V c t h (by omega)]
    frame_out
    pointwise [k1_pay1, mulKV]
    blk_point [iblk1, idx1 t]
    rename_i hc _ _
    blk_simp [idx1 t] at hc
    omega
  · rw [outsAt1_B V c t h (by omega)]
    frame_out
    pointwise [k1_pay2, mulKV]
    blk_point [iblk1, idx1 t]
    rename_i hc _ _
    blk_simp [idx1 t] at hc
    omega

theorem final1 (c : Dev nD) : (dat1 V c).arrAt 3 cfg1.N = mulKV (V c main_v1) (V c main_arg6) (V c main_arg7) := by
  refine (dat1 V c).arrAt_eq_of_covers 3 _ (by decide +kernel) fun t _ y => ?_
  blk_simp
  rw [after1_3]
  exact point1 V c t y

end Cert.Proj
end
end
-- ==== Proof.Host.lean ====
/- The host's part of the kernel program: what its operations leave in the buffers the calls read, at an index. -/
module
public import proofs.«01_k».proof.Proof.Call
public import proofs.«01_k».proof.Proof.Proj
public import Idealize.ShloMosaic.Lib.Claim
public import Idealize.ShloMosaic.Lib.WordCmp
@[expose] public section
set_option maxRecDepth 16384
noncomputable section
namespace Cert.HostPart
open Idealize.ShloMosaic Idealize.ShloMosaic.TcCoe Idealize.SL.Sem
open Cert.KernelIdeal Cert.KernelIdeal.Gen Cert.Reals Cert.Spec Cert.Attn

variable (σ : Valuation τ sig (Elt Ideal))

theorem rows_at (r : Fin 2048) (k : Fin 4096) : (StableHlo.after hostOps0 σ (Proc.devRef .tc main_v1) : FVec Ideal S2048x4096 .bf16) (ix2 r k)
    = (σ (Proc.devRef .tc main_arg0) : FVec Ideal S2x1024x4096 .f32) (ix3 ⟨r.val / 1024, by omega⟩ ⟨r.val % 1024, by omega⟩ k) := by
  entry_read
  pointwise

theorem cos_at (s : Fin 1024) (d : Fin 128) : (StableHlo.after hostOps0 σ (Proc.devRef .tc main_v5) : FVec Ideal S1024x128 .f32) (ix2 s d)
    = (σ (Proc.devRef .tc main_arg2) : FVec Ideal S1024x64 .f32) (ix2 s ⟨d.val / 2, by omega⟩) := by
  entry_read
  pointwise
  blk_point []

theorem sin_at (s : Fin 1024) (d : Fin 128) : (StableHlo.after hostOps0 σ (Proc.devRef .tc main_v10) : FVec Ideal S1024x128 .f32) (ix2 s d)
    = signedSin (σ (Proc.devRef .tc main_arg3) : FVec Ideal S1024x64 .f32) s d := by
  entry_read
  pointwise [signedSin]
  by_cases h : d.val % 2 = 0
  · rw [dif_pos (by omega), if_pos h]
  · rw [dif_neg (by omega), if_neg h]

/-- The words of two coordinates: the column's is the row's with its last bit flipped just where it is the row's partner. -/
theorem word_flip (r c : Fin 512) : (BitVec.ofNat 32 c.val = BitVec.ofNat 32 r.val ^^^ 1#32) ↔ c.val + 2 * (r.val % 2) = r.val + 1 := by
  have h : ∀ r : Fin 512, BitVec.ofNat 32 r.val ^^^ 1#32 = BitVec.ofNat 32 (r.val + 1 - 2 * (r.val % 2)) := by decide +kernel
  rw [h r, ← BitVec.toNat_inj, BitVec.toNat_ofNat, BitVec.toNat_ofNat]
  omega

/-- The host's table swaps partners. -/
theorem table_swap : IsSwap (n := 512) (StableHlo.after hostOps0 σ (Proc.devRef .tc main_v19)) := by
  intro r c
  have e : (StableHlo.after hostOps0 σ (Proc.devRef .tc main_v19) : FVec Ideal S512x512 .bf16) (ix2 r c)
      = if BitVec.ofNat 32 c.val = BitVec.ofNat 32 r.val ^^^ 1#32 then (1 : EReal) else 0 := by
    entry_read
    pointwise
    rw [WordCmp.cmpi_eq_eq, WordCmp.select_decide]
    rfl
  refine e.trans (if_congr (word_flip r c) rfl rfl)

theorem cosScale_at (s : Fin 1024) (d : Fin 128) : (StableHlo.after hostOps2 σ (Proc.devRef .tc main_v23) : FVec Ideal S1024x128 .f32) (ix2 s d)
    = ((show FVec Ideal S1024x128 .f32 from σ (Proc.devRef .tc main_v5)) (ix2 s d) : EReal) * scale := by
  entry_read
  pointwise [scale]

theorem sinScale_at (s : Fin 1024) (d : Fin 128) : (StableHlo.after hostOps2 σ (Proc.devRef .tc main_v25) : FVec Ideal S1024x128 .f32) (ix2 s d)
    = ((show FVec Ideal S1024x128 .f32 from σ (Proc.devRef .tc main_v10)) (ix2 s d) : EReal) * scale := by
  entry_read
  pointwise [scale]

theorem result_at (b : Fin 2) (s : Fin 1024) (n : Fin 4096) :
    (StableHlo.after hostOps4 σ (Proc.devRef .tc main_v28) : FVec Ideal S2x1024x4096 .f32) (ix3 b s n)
      = (σ (Proc.devRef .tc main_v27) : FVec Ideal S2048x4096 .f32) (ix2 ⟨b.val * 1024 + s.val, by omega⟩ n) := by
  entry_read
  pointwise

end Cert.HostPart
end
end
-- ==== Proof.Total.lean ====
/- The kernel's four calls composed, of whatever arrays hold what the host leaves: the layer. -/
module
public import proofs.«01_k».proof.Proof.Host
@[expose] public section
set_option maxRecDepth 16384
noncomputable section
namespace Cert.Total
open Idealize.ShloMosaic Idealize.ShloMosaic.TcCoe
open Cert.KernelIdeal Cert.Reals Cert.Spec Cert.Call Cert.Proj

variable (X : FVec Ideal S2x1024x4096 .f32) (C Sn : FVec Ideal S1024x64 .f32) (Wq : FVec Ideal S4096x4096 .f32)
  (Wk Wv : FVec Ideal S4096x1024 .f32) (Wo : FVec Ideal S4096x4096 .f32)

/-- The rows of both batches one after the other. -/
def IsRows (XR : FVec Ideal S2048x4096 .bf16) : Prop :=
  ∀ (r : Fin 2048) (k : Fin 4096), XR (ix2 r k) = X (ix3 ⟨r.val / 1024, by omega⟩ ⟨r.val % 1024, by omega⟩ k)

theorem row_at (XR : FVec Ideal S2048x4096 .bf16) (hX : IsRows X XR) (b : Fin 2) (s : Fin 1024) (k : Fin 4096) :
    XR (ix2 ⟨b.val * 1024 + s.val, by omega⟩ k) = X (ix3 b s k) := by
  rw [hX]
  have h0 : (⟨(b.val * 1024 + s.val) / 1024, by omega⟩ : Fin 2) = b := Fin.ext (by simp only; omega)
  have h1 : (⟨(b.val * 1024 + s.val) % 1024, by omega⟩ : Fin 1024) = s := Fin.ext (by simp only; omega)
  simp only [h0, h1]

theorem queries_eq (XR : FVec Ideal S2048x4096 .bf16) (hX : IsRows X XR) (b : Fin 2) (h : Fin 32) (s : Fin 1024) (e : Fin 128) :
    mulQ XR Wq (ix2 ⟨b.val * 1024 + s.val, by omega⟩ ⟨h.val * 128 + e.val, by omega⟩) = qRow X Wq b h s e := by
  unfold mulQ qRow dotQ
  exact Finset.sum_congr rfl fun k _ => congrArg (fun z : EReal => z * Wq (ix2 k ⟨h.val * 128 + e.val, by omega⟩)) (row_at X XR hX b s k)

theorem keys_eq (XR : FVec Ideal S2048x4096 .bf16) (hX : IsRows X XR) (b : Fin 2) (g : Fin 8) (s : Fin 1024) (e : Fin 128) :
    mulKV XR Wk Wv (ix2 ⟨b.val * 1024 + s.val, by omega⟩ ⟨g.val * 128 + e.val, by omega⟩) = kRow X Wk b g s e := by
  unfold mulKV kRow dotK
  refine Finset.sum_congr rfl fun k _ => congrArg₂ (fun y z : EReal => y * z) (row_at X XR hX b s k) ?_
  exact dif_pos (show g.val * 128 + e.val < 1024 by omega)

theorem values_eq (XR : FVec Ideal S2048x4096 .bf16) (hX : IsRows X XR) (b : Fin 2) (g : Fin 8) (s : Fin 1024) (e : Fin 128) :
    mulKV XR Wk Wv (ix2 ⟨b.val * 1024 + s.val, by omega⟩ ⟨1024 + g.val * 128 + e.val, by omega⟩) = kRow X Wv b g s e := by
  unfold mulKV kRow dotK
  refine Finset.sum_congr rfl fun k _ => congrArg₂ (fun y z : EReal => y * z) (row_at X XR hX b s k) ?_
  refine (dif_neg (show ¬ 1024 + g.val * 128 + e.val < 1024 by omega)).trans ?_
  exact congrArg (fun z => Wv (ix2 k z)) (Fin.ext (show 1024 + g.val * 128 + e.val - 1024 = g.val * 128 + e.val by omega))

theorem scale_nonneg : (0 : EReal) ≤ scale := by
  rw [scale_eq]
  exact EReal.coe_nonneg.mpr (by norm_num)

theorem scale_ne_top : scale ≠ ⊤ := by
  rw [scale_eq]
  exact EReal.coe_ne_top _

/-- Tables of cosines and signed sines, one entry per coordinate. -/
def IsCos (C2 : FVec Ideal S1024x128 .f32) : Prop := ∀ (s : Fin 1024) (d : Fin 128), C2 (ix2 s d) = C (ix2 s ⟨d.val / 2, by omega⟩)
def IsSin (S2 : FVec Ideal S1024x128 .f32) : Prop := ∀ (s : Fin 1024) (d : Fin 128), S2 (ix2 s d) = signedSin Sn s d
def IsScaled (A B : FVec Ideal S1024x128 .f32) : Prop := ∀ (s : Fin 1024) (d : Fin 128), B (ix2 s d) = A (ix2 s d) * scale

theorem rotQ_eq (XR : FVec Ideal S2048x4096 .bf16) (hX : IsRows X XR) (C2 S2 Cq Sq : FVec Ideal S1024x128 .f32) (hC : IsCos C C2) (hS : IsSin Sn S2)
    (hCq : IsScaled C2 Cq) (hSq : IsScaled S2 Sq) (b : Fin 2) (h : Fin 32) (i : Fin 1024) (e : Fin 128) :
    rotQ (mulQ XR Wq) Cq Sq b h i e = rope (qRow X Wq b h i) C Sn i e * scale := by
  unfold rotQ rope
  rw [queries_eq X Wq XR hX, queries_eq X Wq XR hX b h i (partner (n := 64) e), hCq, hSq, hC, hS,
    EReal.right_distrib_of_nonneg_of_ne_top scale_nonneg scale_ne_top, mul_assoc, mul_assoc]

theorem rotK_eq (XR : FVec Ideal S2048x4096 .bf16) (hX : IsRows X XR) (C2 S2 : FVec Ideal S1024x128 .f32) (hC : IsCos C C2) (hS : IsSin Sn S2)
    (b : Fin 2) (g : Fin 8) (j : Fin 1024) (e : Fin 128) :
    rotK (mulKV XR Wk Wv) C2 S2 b g j e = rope (kRow X Wk b g j) C Sn j e := by
  unfold rotK rope
  rw [keys_eq X Wk Wv XR hX, keys_eq X Wk Wv XR hX b g j (partner (n := 64) e), hC, hS]

/-- The attention call of those arrays computes the attended values. -/
theorem callAt_eq (XR : FVec Ideal S2048x4096 .bf16) (hX : IsRows X XR) (C2 S2 Cq Sq : FVec Ideal S1024x128 .f32) (hC : IsCos C C2) (hS : IsSin Sn S2)
    (hCq : IsScaled C2 Cq) (hSq : IsScaled S2 Sq) (b : Fin 2) (h : Fin 32) (i : Fin 1024) (d : Fin 128) :
    callAt (mulQ XR Wq) (mulKV XR Wk Wv) Cq Sq C2 S2 b h i d = attended X C Sn Wq Wk Wv b h i d := by
  unfold callAt attended
  refine congrArg₂ (fun s v => attend s v i) (funext fun j => ?_) (funext fun j => values_eq X Wk Wv XR hX b ⟨h.val / 4, by omega⟩ j d)
  unfold score
  rw [scale_eq, sum_mul_coe _ _ (by norm_num), ← scale_eq]
  refine Finset.sum_congr rfl fun e _ => ?_
  rw [rotQ_eq X C Sn Wq XR hX C2 S2 Cq Sq hC hS hCq hSq, rotK_eq X C Sn Wk Wv XR hX C2 S2 hC hS, mul_right_comm]

/-- THE KERNEL IS THE LAYER. -/
theorem total (XR : FVec Ideal S2048x4096 .bf16) (hX : IsRows X XR) (C2 S2 Cq Sq : FVec Ideal S1024x128 .f32) (hC : IsCos C C2) (hS : IsSin Sn S2)
    (hCq : IsScaled C2 Cq) (hSq : IsScaled S2 Sq) (b : Fin 2) (s : Fin 1024) (n : Fin 4096) :
    mulO (call (mulQ XR Wq) (mulKV XR Wk Wv) Cq Sq C2 S2) Wo (ix2 ⟨b.val * 1024 + s.val, by omega⟩ n) = layer X C Sn Wq Wk Wv Wo b s n := by
  unfold mulO layer
  refine Finset.sum_congr rfl fun k _ => congrArg (fun z : EReal => z * Wo (ix2 k n)) ?_
  refine Eq.trans ?_ (callAt_eq X C Sn Wq Wk Wv XR hX C2 S2 Cq Sq hC hS hCq hSq b ⟨k.val / 128, by omega⟩ s ⟨k.val % 128, by omega⟩)
  have h0 : (⟨(b.val * 1024 + s.val) / 1024, by omega⟩ : Fin 2) = b := Fin.ext (by simp only; omega)
  have h1 : (⟨(b.val * 1024 + s.val) % 1024, by omega⟩ : Fin 1024) = s := Fin.ext (by simp only; omega)
  change callAt _ _ Cq Sq C2 S2 ⟨(b.val * 1024 + s.val) / 1024, by omega⟩ ⟨k.val / 128, by omega⟩ ⟨(b.val * 1024 + s.val) % 1024, by omega⟩ ⟨k.val % 128, by omega⟩ = _
  rw [h0, h1]

end Cert.Total
end
end
-- ==== Proof.Run.lean ====
/- The kernel program's run: its buffers from the launch to the return, and the result array at the end. -/
module
public import proofs.«01_k».proof.Proof.Total
@[expose] public section
set_option maxRecDepth 16384
noncomputable section
namespace Cert.Run
open Idealize.ShloMosaic Idealize.ShloMosaic.TcCoe Idealize.SL.Sem
open Cert.KernelIdeal Cert.KernelIdeal.Gen Cert.Reals Cert.Spec Cert.Attn Cert.Call Cert.Proj Cert.Total

variable (m : (ℓ : Loc nD τ sig) → Buf (Elt Ideal) ℓ) (ρ : Dev nD → PrngReg) (c : Dev nD)

/-! ## What the attention call finds -/

/-- A buffer the host fills before the calls and nothing writes afterwards is the same when the attention call starts. -/
theorem kept (r : Ref sig .tc) (h2 : r ∉ hostOps2_W)
    (h1 : ∀ w : Fin cfg1.W, Pipeline.arrRef spec1 w = r → (cfg1.win w).isOut = false)
    (h0 : ∀ w : Fin cfg0.W, Pipeline.arrRef spec0 w = r → (cfg0.win w).isOut = false) :
    V4 m ρ c r = V1 m ρ c r :=
  ((W4_of m ρ c r h2).trans (W3_of m ρ c r h1)).trans (W2_of m ρ c r h0)

theorem keptTo3 (r : Ref sig .tc)
    (h1 : ∀ w : Fin cfg1.W, Pipeline.arrRef spec1 w = r → (cfg1.win w).isOut = false)
    (h0 : ∀ w : Fin cfg0.W, Pipeline.arrRef spec0 w = r → (cfg0.win w).isOut = false) :
    W3 m ρ c (Proc.devRef .tc r) = W1 m ρ c (Proc.devRef .tc r) := (W3_of m ρ c r h1).trans (W2_of m ρ c r h0)

theorem at_v19 : V4 m ρ c main_v19 = V1 m ρ c main_v19 := kept m ρ c main_v19 (by decide) (by decide) (by decide)
theorem at_v5 : V4 m ρ c main_v5 = V1 m ρ c main_v5 := kept m ρ c main_v5 (by decide) (by decide) (by decide)
theorem at_v10 : V4 m ρ c main_v10 = V1 m ρ c main_v10 := kept m ρ c main_v10 (by decide) (by decide) (by decide)

theorem at_v20 : V4 m ρ c main_v20 = mulQ (V1 m ρ c main_v1) (m ((c : Thread nD τ).loc main_arg5)) := by
  refine ((W4_of m ρ c main_v20 (by decide)).trans (W3_of m ρ c main_v20 (by decide))).trans ((W2_arr m ρ c 2).trans ?_)
  rw [final0 (V1 m ρ) c]
  exact congrArg (mulQ (V1 m ρ c main_v1)) (W1_args m ρ c main_arg5 (by decide))

theorem at_v21 : V4 m ρ c main_v21 = mulKV (V1 m ρ c main_v1) (m ((c : Thread nD τ).loc main_arg6)) (m ((c : Thread nD τ).loc main_arg7)) := by
  refine (W4_of m ρ c main_v21 (by decide)).trans ((W3_arr m ρ c 3).trans ?_)
  rw [final1 (V2 m ρ) c]
  have e : V2 m ρ c main_v1 = V1 m ρ c main_v1 := W2_of m ρ c main_v1 (by decide)
  have e6 : V2 m ρ c main_arg6 = m ((c : Thread nD τ).loc main_arg6) := W2_args m ρ c main_arg6 (by decide)
  have e7 : V2 m ρ c main_arg7 = m ((c : Thread nD τ).loc main_arg7) := W2_args m ρ c main_arg7 (by decide)
  rw [e, e6, e7]

theorem table : IsSwap (n := 512) (V4 m ρ c main_v19) := by
  rw [at_v19]
  exact HostPart.table_swap (W0 m ρ c)

theorem rows : IsRows (m ((c : Thread nD τ).loc main_arg0)) (V1 m ρ c main_v1) := fun r k => HostPart.rows_at (W0 m ρ c) r k
theorem cosines : IsCos (m ((c : Thread nD τ).loc main_arg2)) (V1 m ρ c main_v5) := fun s d => HostPart.cos_at (W0 m ρ c) s d
theorem sines : IsSin (m ((c : Thread nD τ).loc main_arg3)) (V1 m ρ c main_v10) := fun s d => HostPart.sin_at (W0 m ρ c) s d

theorem cosScaled : IsScaled (V1 m ρ c main_v5) (V4 m ρ c main_v23) := fun s d => by
  refine (HostPart.cosScale_at (W3 m ρ c) s d).trans ?_
  rw [keptTo3 m ρ c main_v5 (by decide) (by decide)]

theorem sinScaled : IsScaled (V1 m ρ c main_v10) (V4 m ρ c main_v25) := fun s d => by
  refine (HostPart.sinScale_at (W3 m ρ c) s d).trans ?_
  rw [keptTo3 m ρ c main_v10 (by decide) (by decide)]

/-! ## What the program leaves -/

theorem at_v26 : V5 m ρ c main_v26 = call (mulQ (V1 m ρ c main_v1) (m ((c : Thread nD τ).loc main_arg5)))
    (mulKV (V1 m ρ c main_v1) (m ((c : Thread nD τ).loc main_arg6)) (m ((c : Thread nD τ).loc main_arg7)))
    (V4 m ρ c main_v23) (V4 m ρ c main_v25) (V1 m ρ c main_v5) (V1 m ρ c main_v10) := by
  refine (W5_arr m ρ c 8).trans ?_
  rw [final2 (V4 m ρ) c (table m ρ c), at_v20, at_v21, at_v5, at_v10]

theorem at_v27 : V6 m ρ c main_v27 = mulO (V5 m ρ c main_v26) (m ((c : Thread nD τ).loc main_arg8)) := by
  refine (W6_arr m ρ c 2).trans ?_
  rw [final3 (V5 m ρ) c]
  exact congrArg (mulO (V5 m ρ c main_v26)) (W5_args m ρ c main_arg8 (by decide))

/-- THE RESULT ARRAY at the end, at every index, is the layer of the argument arrays. -/
theorem value (b : Fin 2) (s : Fin 1024) (n : Fin 4096) : (W7 m ρ c (Proc.devRef .tc main_v28) : FVec Ideal S2x1024x4096 .f32) (ix3 b s n)
    = layer (m ((c : Thread nD τ).loc main_arg0)) (m ((c : Thread nD τ).loc main_arg2)) (m ((c : Thread nD τ).loc main_arg3))
      (m ((c : Thread nD τ).loc main_arg5)) (m ((c : Thread nD τ).loc main_arg6)) (m ((c : Thread nD τ).loc main_arg7))
      (m ((c : Thread nD τ).loc main_arg8)) b s n := by
  refine (HostPart.result_at (W6 m ρ c) b s n).trans ?_
  refine (congrFun ((at_v27 m ρ c).trans (congrArg (fun z => mulO z (m ((c : Thread nD τ).loc main_arg8))) (at_v26 m ρ c))) _).trans ?_
  exact total _ _ _ _ _ _ _ _ (rows m ρ c) _ _ _ _ (cosines m ρ c) (sines m ρ c) (cosScaled m ρ c) (sinScaled m ρ c) b s n

end Cert.Run
end
end
-- ==== Proof.Ends.lean ====
/- The kernel program runs to the end of its fold: every buffer ends at the last boundary's contents. -/
module
public import proofs.«01_k».proof.Proof.Run
@[expose] public section
set_option maxRecDepth 16384
noncomputable section
namespace Cert.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.KernelIdeal Cert.KernelIdeal.Gen Cert.Spec

local notation "𝕄" => MT nD τ sig Unit (Elt Ideal) ℕ (UR sig nD τ) ℕ

variable (m : (ℓ : Loc nD τ sig) → Buf (Elt Ideal) ℓ) (ρ : Dev nD → PrngReg)

/-- The contents a core's buffers end with. -/
abbrev AtEnd (c : Dev nD) (mem : (ℓ : Loc nD τ sig) → Buf (Elt Ideal) ℓ) : Prop :=
  ∀ b ∈ Pipeline.ucRefs τ sig, mem ((c : Thread nD τ).1, b) = W7 m ρ c b

/-- The launch's ghost state, and nothing owed besides. -/
theorem launched : (ownU (initOf (Pipeline.cells cfgs cellOf_inj) (Pipeline.launchToks cfgs cellOf_inj)) : sProp 𝕄)
    ⊢ iprop(|={Set.univ}=> (BI.own (emb₁ (initOf (Pipeline.cells cfgs cellOf_inj) (Pipeline.launchToks cfgs cellOf_inj)))
      ∗ bigSep Finset.univ (fun _ : Dev nD => (BI.emp : sProp 𝕄)))) := by
  iintro Hu
  imodintro
  isplitl [Hu]
  · iapply (show (ownU (initOf (Pipeline.cells cfgs cellOf_inj) (Pipeline.launchToks cfgs cellOf_inj)) : sProp 𝕄)
      ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by rw [BI.bigSep_emp_const])
    iempintro

set_option backward.isDefEq.respectTransparency.types false in
/-- THE RUN: every weakly fair execution ends, with every core's buffers at the last boundary's contents. -/
theorem ends : θ_run defs (onTc (τ := τ) (main (F := Ideal))) ⟨m, fun _ => 0, ρ⟩ (fun r => ∀ c : Dev nD, AtEnd m ρ c r.2.mem) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launched)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => AtEnd m ρ c s.mem)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c => h c)

/-- The same, read at the result array and the arguments. -/
theorem run : θ_run defs (onTc (τ := τ) (main (F := Ideal))) ⟨m, fun _ => 0, ρ⟩ (fun r => ∀ c : Dev nD,
      r.2.mem ((c.tc : Thread nD τ).loc main_v28) = W7 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (ends m ρ)
  have arg : ∀ a ∈ argRefs, Proc.devRef (τ := τ) .tc a ∈ Pipeline.ucRefs τ sig → r.2.mem ((c.tc : Thread nD τ).loc a) = m ((c.tc : Thread nD τ).loc a) :=
    fun a ha hu => (h c _ hu).trans (W7_args m ρ c a ha)
  refine ⟨h c _ (mem_uc main_v28 (by decide)), ?_, ?_, ?_, ?_, ?_, ?_, ?_, ?_, ?_⟩ <;>
    exact arg _ (by decide) (mem_uc _ (by decide))

end Cert.Run
end
end
-- ==== Proof.Ref.lean ====
/-
  The reference's result in coordinates: its composed term cut into the stages of the layer, each read at an index,
  and the whole read as `Spec.layer` under the precondition's mask and real scores.
-/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.Ref

open Idealize.ShloMosaic Cert.ReferenceIdeal Cert.ReferenceIdeal.Gen Cert.Reals Cert.Spec

/-! ## The stages -/

/-- A query projection, by heads. -/
def projQ (X : FVec Ideal S2x1024x4096 .f32) (W : FVec Ideal S4096x4096 .f32) : FVec Ideal S2x1024x32x128 .f32 :=
  shapeCast _ (Host.dotGeneral dot_S2x1024x4096_S4096x4096_S2x1024x4096_2_0_01_1_n_n none X W : FVec Ideal S2x1024x4096 .f32) shapeCasts_S2x1024x4096_S2x1024x32x128

/-- A key or value projection, by groups. -/
def projK (X : FVec Ideal S2x1024x4096 .f32) (W : FVec Ideal S4096x1024 .f32) : FVec Ideal S2x1024x8x128 .f32 :=
  shapeCast _ (Host.dotGeneral dot_S2x1024x4096_S4096x1024_S2x1024x1024_2_0_01_1_n_n none X W : FVec Ideal S2x1024x1024 .f32) shapeCasts_S2x1024x1024_S2x1024x8x128

/-- A table of angles against every head. -/
def anglesQ (C : FVec Ideal S1024x64 .f32) : FVec Ideal S2x1024x32x64 .f32 :=
  broadcastInDim S2x1024x32x64 ![0, 1, 2, 3] bcast_S1x1024x1x64_S2x1024x32x64_0_1_2_3 (broadcastInDim S1x1024x1x64 ![1, 3] bcast_S1024x64_S1x1024x1x64_1_3 C)

/-- The even coordinates of the heads. -/
def evenQ (q : FVec Ideal S2x1024x32x128 .f32) : FVec Ideal S2x1024x32x64 .f32 :=
  shapeCast _ (extractStridedSlice S2x1024x32x64x1 ![0, 0, 0, 0, 0] (shapeCast _ q shapeCasts_S2x1024x32x128_S2x1024x32x64x2 : FVec Ideal S2x1024x32x64x2 .f32) slices_S2x1024x32x64x2_S2x1024x32x64x1_0_0_0_0_0) shapeCasts_S2x1024x32x64x1_S2x1024x32x64

/-- The odd coordinates of the heads. -/
def oddQ (q : FVec Ideal S2x1024x32x128 .f32) : FVec Ideal S2x1024x32x64 .f32 :=
  shapeCast _ (extractStridedSlice S2x1024x32x64x1 ![0, 0, 0, 0, 1] (shapeCast _ q shapeCasts_S2x1024x32x128_S2x1024x32x64x2 : FVec Ideal S2x1024x32x64x2 .f32) slices_S2x1024x32x64x2_S2x1024x32x64x1_0_0_0_0_1) shapeCasts_S2x1024x32x64x1_S2x1024x32x64

/-- The rotated heads. -/
def ropeQ (q : FVec Ideal S2x1024x32x128 .f32) (C Sn : FVec Ideal S1024x64 .f32) : FVec Ideal S2x1024x32x128 .f32 :=
  shapeCast _ (concatenate S2x1024x32x64x2 4
    [⟨S2x1024x32x64x1, (broadcastInDim S2x1024x32x64x1 ![0, 1, 2, 3] bcast_S2x1024x32x64_S2x1024x32x64x1_0_1_2_3
      (subf (mulf (evenQ q) (anglesQ C)) (mulf (oddQ q) (anglesQ Sn))))⟩,
     ⟨S2x1024x32x64x1, (broadcastInDim S2x1024x32x64x1 ![0, 1, 2, 3] bcast_S2x1024x32x64_S2x1024x32x64x1_0_1_2_3
      (addf (mulf (evenQ q) (anglesQ Sn)) (mulf (oddQ q) (anglesQ C))))⟩]
    concatenates_S2x1024x32x64x1_S2x1024x32x64x1_S2x1024x32x64x2_d4) shapeCasts_S2x1024x32x64x2_S2x1024x32x128

/-- A table of angles against every group. -/
def anglesK (C : FVec Ideal S1024x64 .f32) : FVec Ideal S2x1024x8x64 .f32 :=
  broadcastInDim S2x1024x8x64 ![0, 1, 2, 3] bcast_S1x1024x1x64_S2x1024x8x64_0_1_2_3 (broadcastInDim S1x1024x1x64 ![1, 3] bcast_S1024x64_S1x1024x1x64_1_3 C)

/-- The even coordinates of the groups. -/
def evenK (q : FVec Ideal S2x1024x8x128 .f32) : FVec Ideal S2x1024x8x64 .f32 :=
  shapeCast _ (extractStridedSlice S2x1024x8x64x1 ![0, 0, 0, 0, 0] (shapeCast _ q shapeCasts_S2x1024x8x128_S2x1024x8x64x2 : FVec Ideal S2x1024x8x64x2 .f32) slices_S2x1024x8x64x2_S2x1024x8x64x1_0_0_0_0_0) shapeCasts_S2x1024x8x64x1_S2x1024x8x64

/-- The odd coordinates of the groups. -/
def oddK (q : FVec Ideal S2x1024x8x128 .f32) : FVec Ideal S2x1024x8x64 .f32 :=
  shapeCast _ (extractStridedSlice S2x1024x8x64x1 ![0, 0, 0, 0, 1] (shapeCast _ q shapeCasts_S2x1024x8x128_S2x1024x8x64x2 : FVec Ideal S2x1024x8x64x2 .f32) slices_S2x1024x8x64x2_S2x1024x8x64x1_0_0_0_0_1) shapeCasts_S2x1024x8x64x1_S2x1024x8x64

/-- The rotated groups. -/
def ropeK (q : FVec Ideal S2x1024x8x128 .f32) (C Sn : FVec Ideal S1024x64 .f32) : FVec Ideal S2x1024x8x128 .f32 :=
  shapeCast _ (concatenate S2x1024x8x64x2 4
    [⟨S2x1024x8x64x1, (broadcastInDim S2x1024x8x64x1 ![0, 1, 2, 3] bcast_S2x1024x8x64_S2x1024x8x64x1_0_1_2_3
      (subf (mulf (evenK q) (anglesK C)) (mulf (oddK q) (anglesK Sn))))⟩,
     ⟨S2x1024x8x64x1, (broadcastInDim S2x1024x8x64x1 ![0, 1, 2, 3] bcast_S2x1024x8x64_S2x1024x8x64x1_0_1_2_3
      (addf (mulf (evenK q) (anglesK Sn)) (mulf (oddK q) (anglesK C))))⟩]
    concatenates_S2x1024x8x64x1_S2x1024x8x64x1_S2x1024x8x64x2_d4) shapeCasts_S2x1024x8x64x2_S2x1024x8x128

/-- Each group repeated for its four heads. -/
def spread (k : FVec Ideal S2x1024x8x128 .f32) : FVec Ideal S2x1024x32x128 .f32 :=
  shapeCast _ (broadcastInDim S2x1024x8x4x128 ![0, 1, 2, 4] bcast_S2x1024x8x128_S2x1024x8x4x128_0_1_2_4 k : FVec Ideal S2x1024x8x4x128 .f32) shapeCasts_S2x1024x8x4x128_S2x1024x32x128

/-- The scores of rotated queries against rotated keys, scaled. -/
def scores (q k : FVec Ideal S2x1024x32x128 .f32) : FVec Ideal S2x32x1024x1024 .f32 :=
  mulf (Host.dotGeneral dot_S2x1024x32x128_S2x1024x32x128_S2x32x1024x1024_3_3_1_1_02_02 none q k)
    (broadcastInDim S2x32x1024x1024 ![] bcast_S_S2x32x1024x1024 (constant S_ .f32 0x3DB504F3#32))

/-- The scores with the additive mask, its negative entries standing for minus infinity. -/
def logits (s : FVec Ideal S2x32x1024x1024 .f32) (M : FVec Ideal S1024x1024 .f32) : FVec Ideal S2x32x1024x1024 .f32 :=
  addf s (broadcastInDim S2x32x1024x1024 ![0, 1, 2, 3] bcast_S1x1x1024x1024_S2x32x1024x1024_0_1_2_3 (broadcastInDim S1x1x1024x1024 ![2, 3] bcast_S1024x1024_S1x1x1024x1024_2_3
    (select (cmpf .olt M (broadcastInDim S1024x1024 ![] bcast_S_S1024x1024 (constant S_ .f32 0x00000000#32)))
      (broadcastInDim S1024x1024 ![] bcast_S_S1024x1024 (id (constant S_ .f32 0xFF800000#32))) M)))

/-- The largest logit of each row. -/
def rowMaxes (l : FVec Ideal S2x32x1024x1024 .f32) : FVec Ideal S2x32x1024 .f32 :=
  Host.reduce FloatOps.maximumf l (constant S_ .f32 0xFF800000#32 : FVec Ideal S_ .f32) reducesTo_S2x32x1024x1024_S2x32x1024_d3 h_S_

/-- The exponentials of the logits with a value per row subtracted. -/
def shifted (l : FVec Ideal S2x32x1024x1024 .f32) (r : FVec Ideal S2x32x1024 .f32) : FVec Ideal S2x32x1024x1024 .f32 :=
  Host.exp (subf l (broadcastInDim S2x32x1024x1024 ![0, 1, 2, 3] bcast_S2x32x1024x1_S2x32x1024x1024_0_1_2_3 (broadcastInDim S2x32x1024x1 ![0, 1, 2] bcast_S2x32x1024_S2x32x1024x1_0_1_2
    (maximumf (broadcastInDim S2x32x1024 ![] bcast_S_S2x32x1024 (constant S_ .f32 0xFF800000#32))
      r))))

/-- The exponentials of the logits with their row's maximum subtracted. -/
def expo (l : FVec Ideal S2x32x1024x1024 .f32) : FVec Ideal S2x32x1024x1024 .f32 := shifted l (rowMaxes l)

/-- The softmax of the exponentials: each over its row's sum. -/
def probs (e : FVec Ideal S2x32x1024x1024 .f32) : FVec Ideal S2x32x1024x1024 .f32 :=
  Host.divf e (broadcastInDim S2x32x1024x1024 ![0, 1, 2, 3] bcast_S2x32x1024x1_S2x32x1024x1024_0_1_2_3 (broadcastInDim S2x32x1024x1 ![0, 1, 2] bcast_S2x32x1024_S2x32x1024x1_0_1_2
    (Host.reduceAdd e (constant S_ .f32 0x00000000#32) reducesTo_S2x32x1024x1024_S2x32x1024_d3 h_S_)))

/-- The probabilities against the values. -/
def gather (v : FVec Ideal S2x1024x32x128 .f32) (p : FVec Ideal S2x32x1024x1024 .f32) : FVec Ideal S2x1024x4096 .f32 :=
  shapeCast _ (transpose S2x1024x32x128 [0, 3, 1, 2] (Host.dotGeneral dot_S2x1024x32x128_S2x32x1024x1024_S2x32x128x1024_1_3_3_2_02_01 none v p : FVec Ideal S2x32x128x1024 .f32) transposes_S2x32x128x1024_S2x1024x32x128_0_3_1_2) shapeCasts_S2x1024x32x128_S2x1024x4096

/-- The output projection. -/
def out (o : FVec Ideal S2x1024x4096 .f32) (Wo : FVec Ideal S4096x4096 .f32) : FVec Ideal S2x1024x4096 .f32 :=
  Host.dotGeneral dot_S2x1024x4096_S4096x4096_S2x1024x4096_2_0_01_1_n_n none o Wo

/-- The reference's logits of its arguments. -/
def logitsOf (X : FVec Ideal S2x1024x4096 .f32) (C Sn : FVec Ideal S1024x64 .f32) (M : FVec Ideal S1024x1024 .f32)
    (Wq : FVec Ideal S4096x4096 .f32) (Wk : FVec Ideal S4096x1024 .f32) : FVec Ideal S2x32x1024x1024 .f32 :=
  logits (scores (ropeQ (projQ X Wq) C Sn) (spread (ropeK (projK X Wk) C Sn))) M

/-- THE REFERENCE of its arguments. -/
def result (X : FVec Ideal S2x1024x4096 .f32) (C Sn : FVec Ideal S1024x64 .f32) (M : FVec Ideal S1024x1024 .f32)
    (Wq : FVec Ideal S4096x4096 .f32) (Wk Wv : FVec Ideal S4096x1024 .f32) (Wo : FVec Ideal S4096x4096 .f32) : FVec Ideal S2x1024x4096 .f32 :=
  out (gather (spread (projK X Wv)) (probs (expo (logitsOf X C Sn M Wq Wk)))) Wo

/-- The generated composed term is the stages composed: by unfolding. -/
theorem res_eq (m : (ℓ : Loc nD τ sig) → Buf (Elt Ideal) ℓ) (c : Dev nD) :
    Value.res_main_v75 m c = result (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-! ## The stages at an index -/

theorem projQ_at (X : FVec Ideal S2x1024x4096 .f32) (W : FVec Ideal S4096x4096 .f32) (b : Fin 2) (s : Fin 1024) (h : Fin 32) (d : Fin 128) :
    projQ X W (ix4 b s h d) = qRow X W b h s d := by
  pointwise [projQ, qRow, dotQ]

theorem projK_at (X : FVec Ideal S2x1024x4096 .f32) (W : FVec Ideal S4096x1024 .f32) (b : Fin 2) (s : Fin 1024) (g : Fin 8) (d : Fin 128) :
    projK X W (ix4 b s g d) = kRow X W b g s d := by
  pointwise [projK, kRow, dotK]

/-- The rotation as the reference takes it, by coordinate parity, is `Spec.rope`. -/
theorem rope_of_parity (row : Fin 128 → EReal) (C Sn : FVec Ideal S1024x64 .f32) (s : Fin 1024) (d : Fin 128) :
    (if d.val % 2 < 1 then
      row ⟨d.val / 2 * 2, by omega⟩ * C (ix2 s ⟨d.val / 2, by omega⟩) - row ⟨d.val / 2 * 2 + 1, by omega⟩ * Sn (ix2 s ⟨d.val / 2, by omega⟩)
    else
      row ⟨d.val / 2 * 2, by omega⟩ * Sn (ix2 s ⟨d.val / 2, by omega⟩) + row ⟨d.val / 2 * 2 + 1, by omega⟩ * C (ix2 s ⟨d.val / 2, by omega⟩))
      = rope row C Sn s d := by
  unfold rope signedSin
  by_cases hp : d.val % 2 = 0
  · rw [if_pos (by omega), if_pos hp, sub_eq_add_neg, mul_neg,
      show (⟨d.val / 2 * 2, by omega⟩ : Fin 128) = d from Fin.ext (by simp only; omega),
      show (⟨d.val / 2 * 2 + 1, by omega⟩ : Fin 128) = partner (n := 64) d from Fin.ext (by simp only [partner]; omega)]
  · rw [if_neg (by omega), if_neg hp, add_comm,
      show (⟨d.val / 2 * 2 + 1, by omega⟩ : Fin 128) = d from Fin.ext (by simp only; omega),
      show (⟨d.val / 2 * 2, by omega⟩ : Fin 128) = partner (n := 64) d from Fin.ext (by simp only [partner]; omega)]

theorem ropeQ_at (q : FVec Ideal S2x1024x32x128 .f32) (C Sn : FVec Ideal S1024x64 .f32) (b : Fin 2) (s : Fin 1024) (h : Fin 32) (d : Fin 128) :
    ropeQ q C Sn (ix4 b s h d) = rope (fun e => q (ix4 b s h e)) C Sn s d := by
  refine Eq.trans ?_ (rope_of_parity (fun e => q (ix4 b s h e)) C Sn s d)
  pointwise [ropeQ, evenQ, oddQ, anglesQ]
  split_ifs <;> rfl

theorem ropeK_at (q : FVec Ideal S2x1024x8x128 .f32) (C Sn : FVec Ideal S1024x64 .f32) (b : Fin 2) (s : Fin 1024) (h : Fin 8) (d : Fin 128) :
    ropeK q C Sn (ix4 b s h d) = rope (fun e => q (ix4 b s h e)) C Sn s d := by
  refine Eq.trans ?_ (rope_of_parity (fun e => q (ix4 b s h e)) C Sn s d)
  pointwise [ropeK, evenK, oddK, anglesK]
  split_ifs <;> rfl

theorem spread_at (k : FVec Ideal S2x1024x8x128 .f32) (b : Fin 2) (s : Fin 1024) (h : Fin 32) (d : Fin 128) :
    spread k (ix4 b s h d) = k (ix4 b s ⟨h.val / 4, by omega⟩ d) := by
  pointwise [spread]

theorem scores_at (q k : FVec Ideal S2x1024x32x128 .f32) (b : Fin 2) (h : Fin 32) (i j : Fin 1024) :
    scores q k (ix4 b h i j) = (∑ d : Fin 128, q (ix4 b i h d) * k (ix4 b j h d)) * scale := by
  pointwise [scores, scale]

theorem logits_at (s : FVec Ideal S2x32x1024x1024 .f32) (M : FVec Ideal S1024x1024 .f32) (b : Fin 2) (h : Fin 32) (i j : Fin 1024) :
    logits s M (ix4 b h i j) = s (ix4 b h i j) + (if M (ix2 i j) < 0 then ⊥ else M (ix2 i j)) := by
  have e : (id (constant S_ .f32 0xFF800000#32) : FVec Ideal S_ .f32) ix0 = ⊥ := ofBits_neg_inf
  pointwise [logits]
  rw [e]

/-- A maximum along the last of four axes, at any sizes: the fold over that axis's coordinates. -/
theorem hostMax_last {n0 n1 n2 n3 : ℕ} {t u : Shape} (h : (⟨4, ![n0, n1, n2, n3]⟩ : Shape).ReducesTo [3] t)
    (v : (⟨4, ![n0, n1, n2, n3]⟩ : Shape).Idx → EReal) (init : u.Idx → EReal) (hu : 0 < u.numel) (j : t.Idx) :
    Host.reduce max v init h hu j = (Finset.univ : Finset (Fin n3)).fold max (init (Shape.Idx.first hu))
      (fun k => v (ix4 ⟨(j ⟨0, h.lt_r4_a3_0⟩).val, Shape.coordLt (j ⟨0, h.lt_r4_a3_0⟩) h.size_r4_a3_0⟩
        ⟨(j ⟨1, h.lt_r4_a3_1⟩).val, Shape.coordLt (j ⟨1, h.lt_r4_a3_1⟩) h.size_r4_a3_1⟩
        ⟨(j ⟨2, h.lt_r4_a3_2⟩).val, Shape.coordLt (j ⟨2, h.lt_r4_a3_2⟩) h.size_r4_a3_2⟩ k)) := by
  rw [Host.reduce_eq_fold]
  exact h.fold_fiber_r4_a3 j max _ v

theorem rowMaxes_at (l : FVec Ideal S2x32x1024x1024 .f32) (b : Fin 2) (h : Fin 32) (i : Fin 1024) :
    rowMaxes l (ix3 b h i) = Finset.univ.fold max ⊥ fun k : Fin 1024 => l (ix4 b h i k) := by
  have e := hostMax_last reducesTo_S2x32x1024x1024_S2x32x1024_d3 l (constant S_ .f32 0xFF800000#32 : FVec Ideal S_ .f32) h_S_ (ix3 b h i)
  refine Eq.trans ?_ (e.trans ?_)
  · rfl
  · rw [show (constant S_ .f32 0xFF800000#32 : FVec Ideal S_ .f32) (Shape.Idx.first h_S_) = ⊥ from ofBits_neg_inf]
    rfl

theorem shifted_at (l : FVec Ideal S2x32x1024x1024 .f32) (r : FVec Ideal S2x32x1024 .f32) (b : Fin 2) (h : Fin 32) (i j : Fin 1024) :
    shifted l r (ix4 b h i j) = Ideal.exp (l (ix4 b h i j) - max (Ideal.ofBits .f32 0xFF800000#32) (r (ix3 b h i))) := by
  pointwise [shifted]

theorem expo_at (l : FVec Ideal S2x32x1024x1024 .f32) (b : Fin 2) (h : Fin 32) (i j : Fin 1024) :
    expo l (ix4 b h i j) = Ideal.exp (l (ix4 b h i j) - max ⊥ (Finset.univ.fold max ⊥ fun k : Fin 1024 => l (ix4 b h i k))) := by
  unfold expo
  rw [shifted_at, rowMaxes_at, ofBits_neg_inf]

theorem probs_at (e : FVec Ideal S2x32x1024x1024 .f32) (b : Fin 2) (h : Fin 32) (i j : Fin 1024) :
    probs e (ix4 b h i j) = Ideal.div (e (ix4 b h i j)) (∑ k : Fin 1024, e (ix4 b h i k)) := by
  pointwise [probs]

theorem gather_at (v : FVec Ideal S2x1024x32x128 .f32) (p : FVec Ideal S2x32x1024x1024 .f32) (b : Fin 2) (s : Fin 1024) (n : Fin 4096) :
    gather v p (ix3 b s n) = ∑ j : Fin 1024, v (ix4 b j ⟨n.val / 128, by omega⟩ ⟨n.val % 128, by omega⟩) * p (ix4 b ⟨n.val / 128, by omega⟩ s j) := by
  pointwise [gather]

theorem out_at (o : FVec Ideal S2x1024x4096 .f32) (Wo : FVec Ideal S4096x4096 .f32) (b : Fin 2) (s : Fin 1024) (n : Fin 4096) :
    out o Wo (ix3 b s n) = ∑ k : Fin 4096, o (ix3 b s k) * Wo (ix2 k n) := by
  pointwise [out]

/-! ## The whole -/

/-- The mask of the precondition, at an index: `-1e9` past the diagonal and zero up to it. -/
def IsCausal (M : FVec Ideal S1024x1024 .f32) : Prop :=
  ∀ i j : Fin 1024, (i.val < j.val → M (ix2 i j) < 0) ∧ (¬ i.val < j.val → M (ix2 i j) = 0)

theorem logitsOf_at (X : FVec Ideal S2x1024x4096 .f32) (C Sn : FVec Ideal S1024x64 .f32) (M : FVec Ideal S1024x1024 .f32)
    (Wq : FVec Ideal S4096x4096 .f32) (Wk : FVec Ideal S4096x1024 .f32) (hM : IsCausal M) (b : Fin 2) (h : Fin 32) (i j : Fin 1024) :
    logitsOf X C Sn M Wq Wk (ix4 b h i j) = masked (score X C Sn Wq Wk b h i) i j := by
  unfold logitsOf masked score
  rw [logits_at, scores_at]
  simp only [ropeQ_at, spread_at, ropeK_at, projQ_at, projK_at]
  congr 1
  by_cases hij : i.val < j.val
  · rw [if_pos ((hM i j).1 hij), if_pos hij]
  · rw [(hM i j).2 hij, if_neg (lt_irrefl _), if_neg hij]

/-- THE REFERENCE IS THE LAYER: under a causal mask and real scores, at every index. -/
theorem result_at (X : FVec Ideal S2x1024x4096 .f32) (C Sn : FVec Ideal S1024x64 .f32) (M : FVec Ideal S1024x1024 .f32)
    (Wq : FVec Ideal S4096x4096 .f32) (Wk Wv : FVec Ideal S4096x1024 .f32) (Wo : FVec Ideal S4096x4096 .f32) (hM : IsCausal M)
    (hs : ∀ b h i j, IsReal (score X C Sn Wq Wk b h i j)) (b : Fin 2) (s : Fin 1024) (n : Fin 4096) :
    result X C Sn M Wq Wk Wv Wo (ix3 b s n) = layer X C Sn Wq Wk Wv Wo b s n := by
  unfold result layer
  rw [out_at]
  refine Finset.sum_congr rfl fun k _ => congrArg (· * _) ?_
  rw [gather_at]
  unfold attended
  rw [← softmaxRow_eq_attend _ _ (hs b _ s) s]
  unfold softmaxRow rowMax
  simp only [probs_at, expo_at, logitsOf_at _ _ _ _ _ _ hM, spread_at, projK_at]

end Cert.Ref

end
-- ==== Proof.Pre.lean ====
/- The precondition read at an index: a causal mask, and finite inputs and query and key weights. -/
module
public import proofs.«01_k».proof.Defs
public import proofs.«01_k».proof.Proof.Ref
public import Idealize.ShloMosaic.Lib.WordCmp
public import proofs.«01_k».proof.Proof.Gen.Pre_causal_and_finite
@[expose] public section
set_option maxRecDepth 16384
noncomputable section
namespace Cert.PreRead
open Idealize.ShloMosaic Idealize.ShloMosaic.TcCoe
open Idealize.ShloMosaic.WordCmp
open Cert.Pre_causal_and_finite Cert.Reals Cert.Spec

variable [Cert.Pre_causal_and_finite.Facts]
variable (X : FVec Ideal S2x1024x4096 .f32) (p : IVec S_ 32) (C Sn : FVec Ideal S1024x64 .f32) (M : FVec Ideal S1024x1024 .f32)
  (Wq : FVec Ideal S4096x4096 .f32) (Wk Wv : FVec Ideal S4096x1024 .f32) (Wo : FVec Ideal S4096x4096 .f32)

theorem mask_at (i j : Fin 1024) : (fn X p C Sn M Wq Wk Wv Wo).1 (ix2 i j)
    = BitVec.ofBool (decide (M (ix2 i j) = Scalar.select (IntOp.cmpi CmpIPredicate.sgt (BitVec.ofNat 32 j.val) (BitVec.ofNat 32 i.val))
      (Ideal.ofBits .f32 0xCE6E6B28#32) 0)) := by
  pointwise [fn, fn_where, fn_part1]

/-- The mask of the precondition is causal. -/
theorem causal (h : (fn X p C Sn M Wq Wk Wv Wo).1 = fun _ => 1#1) : Ref.IsCausal M := by
  intro i j
  have e := congrFun h (ix2 i j)
  rw [mask_at, ofBool_decide_eq_one_iff, cmpi_sgt_ofNat (by omega) (by omega)] at e
  have neg : Ideal.ofBits .f32 0xCE6E6B28#32 < 0 := by
    have hs : ((0xCE6E6B28#32).extractLsb' (8 + 23) 1 == 1#1) = true := by decide
    have he : ((0xCE6E6B28#32).extractLsb' 23 8).toNat = 156 := by decide
    have hf : ((0xCE6E6B28#32).extractLsb' 0 23).toNat = 7236392 := by decide
    unfold Ideal.ofBits Ideal.ieee
    simp only [hs, he, hf]
    norm_num
  rw [e]
  constructor
  · intro hij
    rw [decide_eq_true (by omega)]
    exact neg
  · intro hij
    rw [decide_eq_false (by omega)]
    rfl

/-- A value whose absolute value compares below infinity is real. -/
theorem real_of_lt {x : EReal} (h : BitVec.ofBool (decide (FloatOps.absf (F := Ideal) (φ := .f32) x < Ideal.ofBits .f32 0x7F800000#32)) = 1#1) : IsReal x := by
  rw [ofBool_decide_eq_one_iff, ofBits_inf] at h
  exact isReal_of_abs_lt h

theorem real_x (h : (fn X p C Sn M Wq Wk Wv Wo).2.1 = fun _ => 1#1) (i) : IsReal (X i) := by
  refine real_of_lt (Eq.trans ?_ (congrFun h i))
  idx_vars i
  pointwise [fn, fn_where, fn_part1]

theorem real_cos (h : (fn X p C Sn M Wq Wk Wv Wo).2.2.1 = fun _ => 1#1) (i) : IsReal (C i) := by
  refine real_of_lt (Eq.trans ?_ (congrFun h i))
  idx_vars i
  pointwise [fn, fn_where, fn_part1]

theorem real_sin (h : (fn X p C Sn M Wq Wk Wv Wo).2.2.2.1 = fun _ => 1#1) (i) : IsReal (Sn i) := by
  refine real_of_lt (Eq.trans ?_ (congrFun h i))
  idx_vars i
  pointwise [fn, fn_where, fn_part1]

theorem real_wq (h : (fn X p C Sn M Wq Wk Wv Wo).2.2.2.2.1 = fun _ => 1#1) (i) : IsReal (Wq i) := by
  refine real_of_lt (Eq.trans ?_ (congrFun h i))
  idx_vars i
  pointwise [fn, fn_where, fn_part1]

theorem real_wk (h : (fn X p C Sn M Wq Wk Wv Wo).2.2.2.2.2 = fun _ => 1#1) (i) : IsReal (Wk i) := by
  refine real_of_lt (Eq.trans ?_ (congrFun h i))
  idx_vars i
  pointwise [fn, fn_where, fn_part1]

end Cert.PreRead
end
end
-- ==== Proof.Equal.lean ====
/- The value claim: under the precondition the kernel's result array and the reference's are the same layer. -/
module
public import proofs.«01_k».proof.Proof.Ends
public import proofs.«01_k».proof.Proof.Pre
@[expose] public section
set_option maxRecDepth 16384
noncomputable section
namespace Cert.Equal
open Idealize.ShloMosaic Idealize.ShloMosaic.TcCoe Idealize.SL.Sem
open Cert.Reals Cert.Spec

/-- Under the precondition the reference's result, of arguments that agree with the kernel's, is the kernel's. -/
theorem results (m : (ℓ : Loc KernelIdeal.nD KernelIdeal.τ KernelIdeal.sig) → Buf (Elt Ideal) ℓ) (ρ : Dev KernelIdeal.nD → PrngReg)
    (hpre : Pre_KernelIdeal_causal_and_finite m) (c : Dev KernelIdeal.nD) :
    Ref.result (m ((c.tc : Thread KernelIdeal.nD KernelIdeal.τ).loc KernelIdeal.main_arg0)) (m ((c.tc : Thread KernelIdeal.nD KernelIdeal.τ).loc KernelIdeal.main_arg2))
      (m ((c.tc : Thread KernelIdeal.nD KernelIdeal.τ).loc KernelIdeal.main_arg3)) (m ((c.tc : Thread KernelIdeal.nD KernelIdeal.τ).loc KernelIdeal.main_arg4))
      (m ((c.tc : Thread KernelIdeal.nD KernelIdeal.τ).loc KernelIdeal.main_arg5)) (m ((c.tc : Thread KernelIdeal.nD KernelIdeal.τ).loc KernelIdeal.main_arg6))
      (m ((c.tc : Thread KernelIdeal.nD KernelIdeal.τ).loc KernelIdeal.main_arg7)) (m ((c.tc : Thread KernelIdeal.nD KernelIdeal.τ).loc KernelIdeal.main_arg8))
    = KernelIdeal.Gen.W7 m ρ c (Proc.devRef .tc KernelIdeal.main_v28) := by
  obtain ⟨hM, hX, hC, hS, hq, hk⟩ := hpre c
  funext y
  obtain ⟨b, s, n, rfl⟩ : ∃ (b : Fin 2) (s : Fin 1024) (n : Fin 4096), y = ix3 b s n := ⟨y 0, y 1, y 2, by idx_vars y⟩
  refine (Ref.result_at _ _ _ _ _ _ _ _ (PreRead.causal _ _ _ _ _ _ _ _ _ hM) ?_ b s n).trans (Run.value m ρ c b s n).symm
  exact isReal_score _ _ _ _ _ (PreRead.real_x _ _ _ _ _ _ _ _ _ hX) (PreRead.real_cos _ _ _ _ _ _ _ _ _ hC)
    (PreRead.real_sin _ _ _ _ _ _ _ _ _ hS) (PreRead.real_wq _ _ _ _ _ _ _ _ _ hq) (PreRead.real_wk _ _ _ _ _ _ _ _ _ hk)

/-- THE VALUE CLAIM. -/
theorem algebraic : algebraic_KernelIdeal_ReferenceIdeal_pre_causal_and_finite := by
  intro m ρ m' ρ' hpre hagree
  refine ⟨fun c => KernelIdeal.Gen.W7 m ρ c (Proc.devRef .tc KernelIdeal.main_v28), Run.run m ρ, ?_⟩
  refine (θ_run ReferenceIdeal.defs _ _).mono (fun r h c => ⟨?_, (h c).2⟩) (ReferenceIdeal.Value.run (F := Ideal) m' ρ')
  obtain ⟨a0, -, a2, a3, a4, a5, a6, a7, a8⟩ := hagree c
  refine ((h c).1.trans (Ref.res_eq m' c)).trans ?_
  rw [a0, a2, a3, a4, a5, a6, a7, a8]
  exact results m ρ hpre c

end Cert.Equal
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_causal_and_finite
public import proofs.«01_k».proof.Proof.Equal
public import Idealize.ShloMosaic.Adequacy
public import Idealize.ShloMosaic.Init

@[expose] public section

noncomputable section

namespace Cert.Proof

open Idealize.ShloMosaic Idealize.SL.Sem

/-- The reference's frame: its run, and a program without semaphores leaves every counter at zero. -/
theorem referenceFrame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant of the ideal kernel: the mask value read as minus infinity. -/
theorem preserves : Cert.preserves_Kernel_KernelIdeal :=
  IdealRules.named_const.statement Cert.KernelIdeal.κ "mask" .f32 0xCE6E6B28#32 ⊥ rfl

/-- Everything claimed. -/
theorem claim : Cert.Claim :=
  ⟨Cert.Kernel.Gen.facts, Cert.KernelIdeal.Gen.facts, Cert.ReferenceIdeal.Gen.facts, Cert.Pre_causal_and_finite.Gen.facts,
    fun m ρ _ => Cert.Kernel.Gen.frame m ρ, fun m ρ _ => Cert.KernelIdeal.Gen.frame m ρ, fun m ρ _ => Cert.KernelIdeal.Gen.frame m ρ,
    referenceFrame, fun m ρ _ => referenceFrame m ρ trivial, preserves, Cert.Equal.algebraic⟩

end Cert.Proof

end
